-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v167)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v167) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v203) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_and_in_range : Cert.Pre_finite_and_in_range.Facts),
    quiescent_Kernel (hKernel := hKernel)
    ∧ quiescent_KernelIdeal (hKernelIdeal := hKernelIdeal)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S320000x128 : Shape := ⟨2, ![320000, 128]⟩
abbrev S30000x128 : Shape := ⟨2, ![30000, 128]⟩
abbrev S5000x3 : Shape := ⟨2, ![5000, 3]⟩
abbrev S5000x4 : Shape := ⟨2, ![5000, 4]⟩
abbrev S5000x5 : Shape := ⟨2, ![5000, 5]⟩
abbrev S5000x6 : Shape := ⟨2, ![5000, 6]⟩
abbrev S5000x7 : Shape := ⟨2, ![5000, 7]⟩
abbrev S5000x8 : Shape := ⟨2, ![5000, 8]⟩
abbrev S2x6x128x128 : Shape := ⟨4, ![2, 6, 128, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩

class Facts : Prop where
  bcast_S_S320000x128 : S_.BroadcastsInDim S320000x128 (![] : Fin 0 → Fin S320000x128.rank)
  reducesTo_S320000x128_S_d0_1 : S320000x128.ReducesTo [0, 1] S_
  h_S_ : 0 < S_.numel
  bcast_S_S384x256 : S_.BroadcastsInDim S384x256 (![] : Fin 0 → Fin S384x256.rank)
  reducesTo_S384x256_S_d0_1 : S384x256.ReducesTo [0, 1] S_
  bcast_S_S256 : S_.BroadcastsInDim S256 (![] : Fin 0 → Fin S256.rank)
  reducesTo_S256_S_d0 : S256.ReducesTo [0] S_
  bcast_S_S128 : S_.BroadcastsInDim S128 (![] : Fin 0 → Fin S128.rank)
  reducesTo_S128_S_d0 : S128.ReducesTo [0] S_
  bcast_S_S5000x3 : S_.BroadcastsInDim S5000x3 (![] : Fin 0 → Fin S5000x3.rank)
  reducesTo_S5000x3_S_d0_1 : S5000x3.ReducesTo [0, 1] S_
  bcast_S_S5000x4 : S_.BroadcastsInDim S5000x4 (![] : Fin 0 → Fin S5000x4.rank)
  reducesTo_S5000x4_S_d0_1 : S5000x4.ReducesTo [0, 1] S_
  bcast_S_S5000x5 : S_.BroadcastsInDim S5000x5 (![] : Fin 0 → Fin S5000x5.rank)
  reducesTo_S5000x5_S_d0_1 : S5000x5.ReducesTo [0, 1] S_
  bcast_S_S5000x6 : S_.BroadcastsInDim S5000x6 (![] : Fin 0 → Fin S5000x6.rank)
  reducesTo_S5000x6_S_d0_1 : S5000x6.ReducesTo [0, 1] S_
  bcast_S_S5000x7 : S_.BroadcastsInDim S5000x7 (![] : Fin 0 → Fin S5000x7.rank)
  reducesTo_S5000x7_S_d0_1 : S5000x7.ReducesTo [0, 1] S_
  bcast_S_S5000x8 : S_.BroadcastsInDim S5000x8 (![] : Fin 0 → Fin S5000x8.rank)
  reducesTo_S5000x8_S_d0_1 : S5000x8.ReducesTo [0, 1] S_

variable [Facts]

def fn_part4 {F : FTy → Type} [FloatOps F] (main_arg7 : IVec S5000x8 32) (main_v63 : IVec S_ 1) (main_v65 : IVec S5000x8 1) (main_v66 : IVec S5000x8 32) : IVec S_ 1 :=
  let main_v67 : IVec S5000x8 1 := cmpi .slt main_arg7 main_v66
  let main_v68 : IVec S5000x8 1 := andi main_v65 main_v67
  let main_c_27 : IVec S_ 1 := constantI S_ 1 1#1
  let main_v69 : IVec S_ 1 := (fun x v => Host.reduce IntOp.andi x v reducesTo_S5000x8_S_d0_1 h_S_) main_v68 main_c_27
  let main_v70 : IVec S_ 1 := andi main_v63 main_v69
  main_v70

def fn_part3 {F : FTy → Type} [FloatOps F] (main_arg5 : IVec S5000x6 32) (main_arg6 : IVec S5000x7 32) (main_arg7 : IVec S5000x8 32) (main_v49 : IVec S_ 1) (main_c_19 : IVec S_ 32) : IVec S_ 1 :=
  let main_v50 : IVec S5000x6 32 := broadcastInDim S5000x6 ![] bcast_S_S5000x6 main_c_19
  let main_v51 : IVec S5000x6 1 := cmpi .sge main_arg5 main_v50
  let main_c_20 : IVec S_ 32 := constantI S_ 32 320000#32
  let main_v52 : IVec S5000x6 32 := broadcastInDim S5000x6 ![] bcast_S_S5000x6 main_c_20
  let main_v53 : IVec S5000x6 1 := cmpi .slt main_arg5 main_v52
  let main_v54 : IVec S5000x6 1 := andi main_v51 main_v53
  let main_c_21 : IVec S_ 1 := constantI S_ 1 1#1
  let main_v55 : IVec S_ 1 := (fun x v => Host.reduce IntOp.andi x v reducesTo_S5000x6_S_d0_1 h_S_) main_v54 main_c_21
  let main_v56 : IVec S_ 1 := andi main_v49 main_v55
  let main_c_22 : IVec S_ 32 := constantI S_ 32 0#32
  let main_v57 : IVec S5000x7 32 := broadcastInDim S5000x7 ![] bcast_S_S5000x7 main_c_22
  let main_v58 : IVec S5000x7 1 := cmpi .sge main_arg6 main_v57
  let main_c_23 : IVec S_ 32 := constantI S_ 32 320000#32
  let main_v59 : IVec S5000x7 32 := broadcastInDim S5000x7 ![] bcast_S_S5000x7 main_c_23
  let main_v60 : IVec S5000x7 1 := cmpi .slt main_arg6 main_v59
  let main_v61 : IVec S5000x7 1 := andi main_v58 main_v60
  let main_c_24 : IVec S_ 1 := constantI S_ 1 1#1
  let main_v62 : IVec S_ 1 := (fun x v => Host.reduce IntOp.andi x v reducesTo_S5000x7_S_d0_1 h_S_) main_v61 main_c_24
  let main_v63 : IVec S_ 1 := andi main_v56 main_v62
  let main_c_25 : IVec S_ 32 := constantI S_ 32 0#32
  let main_v64 : IVec S5000x8 32 := broadcastInDim S5000x8 ![] bcast_S_S5000x8 main_c_25
  let main_v65 : IVec S5000x8 1 := cmpi .sge main_arg7 main_v64
  let main_c_26 : IVec S_ 32 := constantI S_ 32 320000#32
  let main_v66 : IVec S5000x8 32 := broadcastInDim S5000x8 ![] bcast_S_S5000x8 main_c_26
  fn_part4 (F := F) main_arg7 main_v63 main_v65 main_v66

def fn_part2 {F : FTy → Type} [FloatOps F] (main_arg3 : IVec S5000x4 32) (main_arg4 : IVec S5000x5 32) (main_arg5 : IVec S5000x6 32) (main_arg6 : IVec S5000x7 32) (main_arg7 : IVec S5000x8 32) (main_v28 : IVec S_ 1) (main_v33 : IVec S5000x3 1) : IVec S_ 1 :=
  let main_c_12 : IVec S_ 1 := constantI S_ 1 1#1
  let main_v34 : IVec S_ 1 := (fun x v => Host.reduce IntOp.andi x v reducesTo_S5000x3_S_d0_1 h_S_) main_v33 main_c_12
  let main_v35 : IVec S_ 1 := andi main_v28 main_v34
  let main_c_13 : IVec S_ 32 := constantI S_ 32 0#32
  let main_v36 : IVec S5000x4 32 := broadcastInDim S5000x4 ![] bcast_S_S5000x4 main_c_13
  let main_v37 : IVec S5000x4 1 := cmpi .sge main_arg3 main_v36
  let main_c_14 : IVec S_ 32 := constantI S_ 32 320000#32
  let main_v38 : IVec S5000x4 32 := broadcastInDim S5000x4 ![] bcast_S_S5000x4 main_c_14
  let main_v39 : IVec S5000x4 1 := cmpi .slt main_arg3 main_v38
  let main_v40 : IVec S5000x4 1 := andi main_v37 main_v39
  let main_c_15 : IVec S_ 1 := constantI S_ 1 1#1
  let main_v41 : IVec S_ 1 := (fun x v => Host.reduce IntOp.andi x v reducesTo_S5000x4_S_d0_1 h_S_) main_v40 main_c_15
  let main_v42 : IVec S_ 1 := andi main_v35 main_v41
  let main_c_16 : IVec S_ 32 := constantI S_ 32 0#32
  let main_v43 : IVec S5000x5 32 := broadcastInDim S5000x5 ![] bcast_S_S5000x5 main_c_16
  let main_v44 : IVec S5000x5 1 := cmpi .sge main_arg4 main_v43
  let main_c_17 : IVec S_ 32 := constantI S_ 32 320000#32
  let main_v45 : IVec S5000x5 32 := broadcastInDim S5000x5 ![] bcast_S_S5000x5 main_c_17
  let main_v46 : IVec S5000x5 1 := cmpi .slt main_arg4 main_v45
  let main_v47 : IVec S5000x5 1 := andi main_v44 main_v46
  let main_c_18 : IVec S_ 1 := constantI S_ 1 1#1
  let main_v48 : IVec S_ 1 := (fun x v => Host.reduce IntOp.andi x v reducesTo_S5000x5_S_d0_1 h_S_) main_v47 main_c_18
  let main_v49 : IVec S_ 1 := andi main_v42 main_v48
  let main_c_19 : IVec S_ 32 := constantI S_ 32 0#32
  fn_part3 (F := F) main_arg5 main_arg6 main_arg7 main_v49 main_c_19

def fn_part1 {F : FTy → Type} [FloatOps F] (main_arg2 : IVec S5000x3 32) (main_arg3 : IVec S5000x4 32) (main_arg4 : IVec S5000x5 32) (main_arg5 : IVec S5000x6 32) (main_arg6 : IVec S5000x7 32) (main_arg7 : IVec S5000x8 32) (main_arg16 : FVec F S256 .f32) (main_arg19 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S256 .f32 := Host.absf main_arg16
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S128 .f32 := Host.absf main_arg19
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_c_10 : IVec S_ 32 := constantI S_ 32 0#32
  let main_v29 : IVec S5000x3 32 := broadcastInDim S5000x3 ![] bcast_S_S5000x3 main_c_10
  let main_v30 : IVec S5000x3 1 := cmpi .sge main_arg2 main_v29
  let main_c_11 : IVec S_ 32 := constantI S_ 32 320000#32
  let main_v31 : IVec S5000x3 32 := broadcastInDim S5000x3 ![] bcast_S_S5000x3 main_c_11
  let main_v32 : IVec S5000x3 1 := cmpi .slt main_arg2 main_v31
  let main_v33 : IVec S5000x3 1 := andi main_v30 main_v32
  fn_part2 (F := F) main_arg3 main_arg4 main_arg5 main_arg6 main_arg7 main_v28 main_v33

def fn {F : FTy → Type} [FloatOps F] (main_arg0 : FVec F S320000x128 .f32) (main_arg1 : FVec F S30000x128 .f32) (main_arg2 : IVec S5000x3 32) (main_arg3 : IVec S5000x4 32) (main_arg4 : IVec S5000x5 32) (main_arg5 : IVec S5000x6 32) (main_arg6 : IVec S5000x7 32) (main_arg7 : IVec S5000x8 32) (main_arg8 : FVec F S2x6x128x128 .f32) (main_arg9 : FVec F S384x256 .f32) (main_arg10 : FVec F S256 .f32) (main_arg11 : FVec F S256 .f32) (main_arg12 : FVec F S256x128 .f32) (main_arg13 : FVec F S128 .f32) (main_arg14 : FVec F S128 .f32) (main_arg15 : FVec F S256x256 .f32) (main_arg16 : FVec F S256 .f32) (main_arg17 : FVec F S256 .f32) (main_arg18 : FVec F S256x128 .f32) (main_arg19 : FVec F S128 .f32) (main_arg20 : FVec F S128 .f32) : IVec S_ 1 :=
  let main_v0 : FVec F S320000x128 .f32 := Host.absf main_arg0
  let main_cst : FVec F S_ .f32 := constant S_ .f32 0x7F800000#32
  let main_v1 : FVec F S320000x128 .f32 := broadcastInDim S320000x128 ![] bcast_S_S320000x128 main_cst
  let main_v2 : IVec S320000x128 1 := cmpf .olt main_v0 main_v1
  let main_c : IVec S_ 1 := constantI S_ 1 1#1
  let main_v3 : IVec S_ 1 := (fun x v => Host.reduce IntOp.andi x v reducesTo_S320000x128_S_d0_1 h_S_) main_v2 main_c
  let main_v4 : FVec F S384x256 .f32 := Host.absf main_arg9
  let main_cst_0 : FVec F S_ .f32 := constant S_ .f32 0x7F800000#32
  let main_v5 : FVec F S384x256 .f32 := broadcastInDim S384x256 ![] bcast_S_S384x256 main_cst_0
  let main_v6 : IVec S384x256 1 := cmpf .olt main_v4 main_v5
  let main_c_1 : IVec S_ 1 := constantI S_ 1 1#1
  let main_v7 : IVec S_ 1 := (fun x v => Host.reduce IntOp.andi x v reducesTo_S384x256_S_d0_1 h_S_) main_v6 main_c_1
  let main_v8 : IVec S_ 1 := andi main_v3 main_v7
  let main_v9 : FVec F S256 .f32 := Host.absf main_arg10
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S128 .f32 := Host.absf main_arg13
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg2 main_arg3 main_arg4 main_arg5 main_arg6 main_arg7 main_arg16 main_arg19 main_v13 main_v16
-- ==== Kernel.lean ====
abbrev S320000x128 : Shape := ⟨2, ![320000, 128]⟩
abbrev S30000x128 : Shape := ⟨2, ![30000, 128]⟩
abbrev S5000x3 : Shape := ⟨2, ![5000, 3]⟩
abbrev S5000x4 : Shape := ⟨2, ![5000, 4]⟩
abbrev S5000x5 : Shape := ⟨2, ![5000, 5]⟩
abbrev S5000x6 : Shape := ⟨2, ![5000, 6]⟩
abbrev S5000x7 : Shape := ⟨2, ![5000, 7]⟩
abbrev S5000x8 : Shape := ⟨2, ![5000, 8]⟩
abbrev S2x6x128x128 : Shape := ⟨4, ![2, 6, 128, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S128x256 : Shape := ⟨2, ![128, 256]⟩
abbrev S2x128x256 : Shape := ⟨3, ![2, 128, 256]⟩
abbrev S6x128x256 : Shape := ⟨3, ![6, 128, 256]⟩
abbrev S_ : Shape := ⟨0, ![]⟩
abbrev S5000x3x1 : Shape := ⟨3, ![5000, 3, 1]⟩
abbrev S1 : Shape := ⟨1, ![1]⟩
abbrev S1x1x1 : Shape := ⟨3, ![1, 1, 1]⟩
abbrev S5000x3x128 : Shape := ⟨3, ![5000, 3, 128]⟩
abbrev S5000x128 : Shape := ⟨2, ![5000, 128]⟩
abbrev S5000x4x1 : Shape := ⟨3, ![5000, 4, 1]⟩
abbrev S5000x4x128 : Shape := ⟨3, ![5000, 4, 128]⟩
abbrev S5000x5x1 : Shape := ⟨3, ![5000, 5, 1]⟩
abbrev S5000x5x128 : Shape := ⟨3, ![5000, 5, 128]⟩
abbrev S5000x6x1 : Shape := ⟨3, ![5000, 6, 1]⟩
abbrev S5000x6x128 : Shape := ⟨3, ![5000, 6, 128]⟩
abbrev S5000x7x1 : Shape := ⟨3, ![5000, 7, 1]⟩
abbrev S5000x7x128 : Shape := ⟨3, ![5000, 7, 128]⟩
abbrev S5000x8x1 : Shape := ⟨3, ![5000, 8, 1]⟩
abbrev S5000x8x128 : Shape := ⟨3, ![5000, 8, 128]⟩
abbrev S2x256 : Shape := ⟨2, ![2, 256]⟩
abbrev S1000x128 : Shape := ⟨2, ![1000, 128]⟩
abbrev S1x128x256 : Shape := ⟨3, ![1, 128, 256]⟩
abbrev S1000x256 : Shape := ⟨2, ![1000, 256]⟩
abbrev S1x256 : Shape := ⟨2, ![1, 256]⟩
abbrev S2x128 : Shape := ⟨2, ![2, 128]⟩
abbrev S1x128 : Shape := ⟨2, ![1, 128]⟩
abbrev S15000 : Shape := ⟨1, ![15000]⟩
abbrev S15000x128 : Shape := ⟨2, ![15000, 128]⟩
abbrev S15000x1 : Shape := ⟨2, ![15000, 1]⟩
abbrev S20000 : Shape := ⟨1, ![20000]⟩
abbrev S20000x128 : Shape := ⟨2, ![20000, 128]⟩
abbrev S20000x1 : Shape := ⟨2, ![20000, 1]⟩
abbrev S25000 : Shape := ⟨1, ![25000]⟩
abbrev S25000x128 : Shape := ⟨2, ![25000, 128]⟩
abbrev S25000x1 : Shape := ⟨2, ![25000, 1]⟩
abbrev S30000 : Shape := ⟨1, ![30000]⟩
abbrev S30000x1 : Shape := ⟨2, ![30000, 1]⟩
abbrev S35000 : Shape := ⟨1, ![35000]⟩
abbrev S35000x128 : Shape := ⟨2, ![35000, 128]⟩
abbrev S35000x1 : Shape := ⟨2, ![35000, 1]⟩
abbrev S40000 : Shape := ⟨1, ![40000]⟩
abbrev S40000x128 : Shape := ⟨2, ![40000, 128]⟩
abbrev S40000x1 : Shape := ⟨2, ![40000, 1]⟩
abbrev S8000x128 : Shape := ⟨2, ![8000, 128]⟩
abbrev S8000x256 : Shape := ⟨2, ![8000, 256]⟩

abbrev nBuf : Space → Nat
  | .hbm => 354
  | .vmem => 48
  | .smem => 0
  | _ => 0

abbrev hbmTy0_0 (i : Nat) : BufTy := match i % 128 with
  | 0 => ⟨S320000x128, .f32⟩
  | 1 => ⟨S30000x128, .f32⟩
  | 2 => ⟨S5000x3, .i32⟩
  | 3 => ⟨S5000x4, .i32⟩
  | 4 => ⟨S5000x5, .i32⟩
  | 5 => ⟨S5000x6, .i32⟩
  | 6 => ⟨S5000x7, .i32⟩
  | 7 => ⟨S5000x8, .i32⟩
  | 8 => ⟨S2x6x128x128, .f32⟩
  | 9 => ⟨S384x256, .f32⟩
  | 10 => ⟨S256, .f32⟩
  | 11 => ⟨S256, .f32⟩
  | 12 => ⟨S256x128, .f32⟩
  | 13 => ⟨S128, .f32⟩
  | 14 => ⟨S128, .f32⟩
  | 15 => ⟨S256x256, .f32⟩
  | 16 => ⟨S256, .f32⟩
  | 17 => ⟨S256, .f32⟩
  | 18 => ⟨S256x128, .f32⟩
  | 19 => ⟨S128, .f32⟩
  | 20 => ⟨S128, .f32⟩
  | 21 => ⟨S128x256, .f32⟩
  | 22 => ⟨S256x256, .f32⟩
  | 23 => ⟨S2x128x256, .f32⟩
  | 24 => ⟨S6x128x256, .f32⟩
  | 25 => ⟨S_, .i32⟩
  | 26 => ⟨S5000x3, .i32⟩
  | 27 => ⟨S5000x3, .i1⟩
  | 28 => ⟨S_, .i32⟩
  | 29 => ⟨S5000x3, .i32⟩
  | 30 => ⟨S5000x3, .i32⟩
  | 31 => ⟨S5000x3, .i32⟩
  | 32 => ⟨S5000x3x1, .i32⟩
  | 33 => ⟨S1, .i32⟩
  | 34 => ⟨S_, .i32⟩
  | 35 => ⟨S5000x3x1, .i32⟩
  | 36 => ⟨S5000x3x1, .i1⟩
  | 37 => ⟨S1x1x1, .i32⟩
  | 38 => ⟨S5000x3x1, .i32⟩
  | 39 => ⟨S5000x3x1, .i1⟩
  | 40 => ⟨S5000x3x1, .i1⟩
  | 41 => ⟨S_, .i1⟩
  | 42 => ⟨S5000x3, .i1⟩
  | 43 => ⟨S5000x3x128, .f32⟩
  | 44 => ⟨S5000x3x128, .i1⟩
  | 45 => ⟨S_, .f32⟩
  | 46 => ⟨S5000x3x128, .f32⟩
  | 47 => ⟨S5000x3x128, .f32⟩
  | 48 => ⟨S_, .f32⟩
  | 49 => ⟨S5000x128, .f32⟩
  | 50 => ⟨S_, .i32⟩
  | 51 => ⟨S5000x4, .i32⟩
  | 52 => ⟨S5000x4, .i1⟩
  | 53 => ⟨S_, .i32⟩
  | 54 => ⟨S5000x4, .i32⟩
  | 55 => ⟨S5000x4, .i32⟩
  | 56 => ⟨S5000x4, .i32⟩
  | 57 => ⟨S5000x4x1, .i32⟩
  | 58 => ⟨S1, .i32⟩
  | 59 => ⟨S_, .i32⟩
  | 60 => ⟨S5000x4x1, .i32⟩
  | 61 => ⟨S5000x4x1, .i1⟩
  | 62 => ⟨S1x1x1, .i32⟩
  | 63 => ⟨S5000x4x1, .i32⟩
  | 64 => ⟨S5000x4x1, .i1⟩
  | 65 => ⟨S5000x4x1, .i1⟩
  | 66 => ⟨S_, .i1⟩
  | 67 => ⟨S5000x4, .i1⟩
  | 68 => ⟨S5000x4x128, .f32⟩
  | 69 => ⟨S5000x4x128, .i1⟩
  | 70 => ⟨S_, .f32⟩
  | 71 => ⟨S5000x4x128, .f32⟩
  | 72 => ⟨S5000x4x128, .f32⟩
  | 73 => ⟨S_, .f32⟩
  | 74 => ⟨S5000x128, .f32⟩
  | 75 => ⟨S_, .i32⟩
  | 76 => ⟨S5000x5, .i32⟩
  | 77 => ⟨S5000x5, .i1⟩
  | 78 => ⟨S_, .i32⟩
  | 79 => ⟨S5000x5, .i32⟩
  | 80 => ⟨S5000x5, .i32⟩
  | 81 => ⟨S5000x5, .i32⟩
  | 82 => ⟨S5000x5x1, .i32⟩
  | 83 => ⟨S1, .i32⟩
  | 84 => ⟨S_, .i32⟩
  | 85 => ⟨S5000x5x1, .i32⟩
  | 86 => ⟨S5000x5x1, .i1⟩
  | 87 => ⟨S1x1x1, .i32⟩
  | 88 => ⟨S5000x5x1, .i32⟩
  | 89 => ⟨S5000x5x1, .i1⟩
  | 90 => ⟨S5000x5x1, .i1⟩
  | 91 => ⟨S_, .i1⟩
  | 92 => ⟨S5000x5, .i1⟩
  | 93 => ⟨S5000x5x128, .f32⟩
  | 94 => ⟨S5000x5x128, .i1⟩
  | 95 => ⟨S_, .f32⟩
  | 96 => ⟨S5000x5x128, .f32⟩
  | 97 => ⟨S5000x5x128, .f32⟩
  | 98 => ⟨S_, .f32⟩
  | 99 => ⟨S5000x128, .f32⟩
  | 100 => ⟨S_, .i32⟩
  | 101 => ⟨S5000x6, .i32⟩
  | 102 => ⟨S5000x6, .i1⟩
  | 103 => ⟨S_, .i32⟩
  | 104 => ⟨S5000x6, .i32⟩
  | 105 => ⟨S5000x6, .i32⟩
  | 106 => ⟨S5000x6, .i32⟩
  | 107 => ⟨S5000x6x1, .i32⟩
  | 108 => ⟨S1, .i32⟩
  | 109 => ⟨S_, .i32⟩
  | 110 => ⟨S5000x6x1, .i32⟩
  | 111 => ⟨S5000x6x1, .i1⟩
  | 112 => ⟨S1x1x1, .i32⟩
  | 113 => ⟨S5000x6x1, .i32⟩
  | 114 => ⟨S5000x6x1, .i1⟩
  | 115 => ⟨S5000x6x1, .i1⟩
  | 116 => ⟨S_, .i1⟩
  | 117 => ⟨S5000x6, .i1⟩
  | 118 => ⟨S5000x6x128, .f32⟩
  | 119 => ⟨S5000x6x128, .i1⟩
  | 120 => ⟨S_, .f32⟩
  | 121 => ⟨S5000x6x128, .f32⟩
  | 122 => ⟨S5000x6x128, .f32⟩
  | 123 => ⟨S_, .f32⟩
  | 124 => ⟨S5000x128, .f32⟩
  | 125 => ⟨S_, .i32⟩
  | 126 => ⟨S5000x7, .i32⟩
  | 127 => ⟨S5000x7, .i1⟩
  | _ => ⟨S320000x128, .f32⟩

abbrev hbmTy0_1 (i : Nat) : BufTy := match i % 128 with
  | 0 => ⟨S_, .i32⟩
  | 1 => ⟨S5000x7, .i32⟩
  | 2 => ⟨S5000x7, .i32⟩
  | 3 => ⟨S5000x7, .i32⟩
  | 4 => ⟨S5000x7x1, .i32⟩
  | 5 => ⟨S1, .i32⟩
  | 6 => ⟨S_, .i32⟩
  | 7 => ⟨S5000x7x1, .i32⟩
  | 8 => ⟨S5000x7x1, .i1⟩
  | 9 => ⟨S1x1x1, .i32⟩
  | 10 => ⟨S5000x7x1, .i32⟩
  | 11 => ⟨S5000x7x1, .i1⟩
  | 12 => ⟨S5000x7x1, .i1⟩
  | 13 => ⟨S_, .i1⟩
  | 14 => ⟨S5000x7, .i1⟩
  | 15 => ⟨S5000x7x128, .f32⟩
  | 16 => ⟨S5000x7x128, .i1⟩
  | 17 => ⟨S_, .f32⟩
  | 18 => ⟨S5000x7x128, .f32⟩
  | 19 => ⟨S5000x7x128, .f32⟩
  | 20 => ⟨S_, .f32⟩
  | 21 => ⟨S5000x128, .f32⟩
  | 22 => ⟨S_, .i32⟩
  | 23 => ⟨S5000x8, .i32⟩
  | 24 => ⟨S5000x8, .i1⟩
  | 25 => ⟨S_, .i32⟩
  | 26 => ⟨S5000x8, .i32⟩
  | 27 => ⟨S5000x8, .i32⟩
  | 28 => ⟨S5000x8, .i32⟩
  | 29 => ⟨S5000x8x1, .i32⟩
  | 30 => ⟨S1, .i32⟩
  | 31 => ⟨S_, .i32⟩
  | 32 => ⟨S5000x8x1, .i32⟩
  | 33 => ⟨S5000x8x1, .i1⟩
  | 34 => ⟨S1x1x1, .i32⟩
  | 35 => ⟨S5000x8x1, .i32⟩
  | 36 => ⟨S5000x8x1, .i1⟩
  | 37 => ⟨S5000x8x1, .i1⟩
  | 38 => ⟨S_, .i1⟩
  | 39 => ⟨S5000x8, .i1⟩
  | 40 => ⟨S5000x8x128, .f32⟩
  | 41 => ⟨S5000x8x128, .i1⟩
  | 42 => ⟨S_, .f32⟩
  | 43 => ⟨S5000x8x128, .f32⟩
  | 44 => ⟨S5000x8x128, .f32⟩
  | 45 => ⟨S_, .f32⟩
  | 46 => ⟨S5000x128, .f32⟩
  | 47 => ⟨S30000x128, .f32⟩
  | 48 => ⟨S2x256, .f32⟩
  | 49 => ⟨S1x256, .f32⟩
  | 50 => ⟨S256, .f32⟩
  | 51 => ⟨S_, .f32⟩
  | 52 => ⟨S256, .f32⟩
  | 53 => ⟨S256, .f32⟩
  | 54 => ⟨S1x256, .f32⟩
  | 55 => ⟨S256, .f32⟩
  | 56 => ⟨S_, .f32⟩
  | 57 => ⟨S256, .f32⟩
  | 58 => ⟨S256, .f32⟩
  | 59 => ⟨S256, .f32⟩
  | 60 => ⟨S256, .f32⟩
  | 61 => ⟨S_, .f32⟩
  | 62 => ⟨S256, .f32⟩
  | 63 => ⟨S256, .f32⟩
  | 64 => ⟨S256, .f32⟩
  | 65 => ⟨S256, .f32⟩
  | 66 => ⟨S256, .f32⟩
  | 67 => ⟨S256, .f32⟩
  | 68 => ⟨S1x256, .f32⟩
  | 69 => ⟨S1x256, .f32⟩
  | 70 => ⟨S2x256, .f32⟩
  | 71 => ⟨S30000x128, .f32⟩
  | 72 => ⟨S2x128, .f32⟩
  | 73 => ⟨S1x128, .f32⟩
  | 74 => ⟨S128, .f32⟩
  | 75 => ⟨S_, .f32⟩
  | 76 => ⟨S128, .f32⟩
  | 77 => ⟨S128, .f32⟩
  | 78 => ⟨S1x128, .f32⟩
  | 79 => ⟨S128, .f32⟩
  | 80 => ⟨S_, .f32⟩
  | 81 => ⟨S128, .f32⟩
  | 82 => ⟨S128, .f32⟩
  | 83 => ⟨S128, .f32⟩
  | 84 => ⟨S128, .f32⟩
  | 85 => ⟨S_, .f32⟩
  | 86 => ⟨S128, .f32⟩
  | 87 => ⟨S128, .f32⟩
  | 88 => ⟨S128, .f32⟩
  | 89 => ⟨S128, .f32⟩
  | 90 => ⟨S128, .f32⟩
  | 91 => ⟨S128, .f32⟩
  | 92 => ⟨S1x128, .f32⟩
  | 93 => ⟨S1x128, .f32⟩
  | 94 => ⟨S2x128, .f32⟩
  | 95 => ⟨S30000x128, .f32⟩
  | 96 => ⟨S_, .f32⟩
  | 97 => ⟨S320000x128, .f32⟩
  | 98 => ⟨S5000x128, .f32⟩
  | 99 => ⟨S15000, .i32⟩
  | 100 => ⟨S5000x3x128, .f32⟩
  | 101 => ⟨S15000x128, .f32⟩
  | 102 => ⟨S_, .i32⟩
  | 103 => ⟨S15000, .i32⟩
  | 104 => ⟨S15000, .i1⟩
  | 105 => ⟨S_, .i32⟩
  | 106 => ⟨S15000, .i32⟩
  | 107 => ⟨S15000, .i32⟩
  | 108 => ⟨S15000, .i32⟩
  | 109 => ⟨S15000x1, .i32⟩
  | 110 => ⟨S320000x128, .f32⟩
  | 111 => ⟨S5000x128, .f32⟩
  | 112 => ⟨S20000, .i32⟩
  | 113 => ⟨S5000x4x128, .f32⟩
  | 114 => ⟨S20000x128, .f32⟩
  | 115 => ⟨S_, .i32⟩
  | 116 => ⟨S20000, .i32⟩
  | 117 => ⟨S20000, .i1⟩
  | 118 => ⟨S_, .i32⟩
  | 119 => ⟨S20000, .i32⟩
  | 120 => ⟨S20000, .i32⟩
  | 121 => ⟨S20000, .i32⟩
  | 122 => ⟨S20000x1, .i32⟩
  | 123 => ⟨S320000x128, .f32⟩
  | 124 => ⟨S5000x128, .f32⟩
  | 125 => ⟨S25000, .i32⟩
  | 126 => ⟨S5000x5x128, .f32⟩
  | 127 => ⟨S25000x128, .f32⟩
  | _ => ⟨S320000x128, .f32⟩

abbrev hbmTy0_2 (i : Nat) : BufTy := match i % 128 with
  | 0 => ⟨S_, .i32⟩
  | 1 => ⟨S25000, .i32⟩
  | 2 => ⟨S25000, .i1⟩
  | 3 => ⟨S_, .i32⟩
  | 4 => ⟨S25000, .i32⟩
  | 5 => ⟨S25000, .i32⟩
  | 6 => ⟨S25000, .i32⟩
  | 7 => ⟨S25000x1, .i32⟩
  | 8 => ⟨S320000x128, .f32⟩
  | 9 => ⟨S5000x128, .f32⟩
  | 10 => ⟨S30000, .i32⟩
  | 11 => ⟨S5000x6x128, .f32⟩
  | 12 => ⟨S30000x128, .f32⟩
  | 13 => ⟨S_, .i32⟩
  | 14 => ⟨S30000, .i32⟩
  | 15 => ⟨S30000, .i1⟩
  | 16 => ⟨S_, .i32⟩
  | 17 => ⟨S30000, .i32⟩
  | 18 => ⟨S30000, .i32⟩
  | 19 => ⟨S30000, .i32⟩
  | 20 => ⟨S30000x1, .i32⟩
  | 21 => ⟨S320000x128, .f32⟩
  | 22 => ⟨S5000x128, .f32⟩
  | 23 => ⟨S35000, .i32⟩
  | 24 => ⟨S5000x7x128, .f32⟩
  | 25 => ⟨S35000x128, .f32⟩
  | 26 => ⟨S_, .i32⟩
  | 27 => ⟨S35000, .i32⟩
  | 28 => ⟨S35000, .i1⟩
  | 29 => ⟨S_, .i32⟩
  | 30 => ⟨S35000, .i32⟩
  | 31 => ⟨S35000, .i32⟩
  | 32 => ⟨S35000, .i32⟩
  | 33 => ⟨S35000x1, .i32⟩
  | 34 => ⟨S320000x128, .f32⟩
  | 35 => ⟨S5000x128, .f32⟩
  | 36 => ⟨S40000, .i32⟩
  | 37 => ⟨S5000x8x128, .f32⟩
  | 38 => ⟨S40000x128, .f32⟩
  | 39 => ⟨S_, .i32⟩
  | 40 => ⟨S40000, .i32⟩
  | 41 => ⟨S40000, .i1⟩
  | 42 => ⟨S_, .i32⟩
  | 43 => ⟨S40000, .i32⟩
  | 44 => ⟨S40000, .i32⟩
  | 45 => ⟨S40000, .i32⟩
  | 46 => ⟨S40000x1, .i32⟩
  | 47 => ⟨S320000x128, .f32⟩
  | 48 => ⟨S128x256, .f32⟩
  | 49 => ⟨S128x256, .f32⟩
  | 50 => ⟨S2x256, .f32⟩
  | 51 => ⟨S1x256, .f32⟩
  | 52 => ⟨S256, .f32⟩
  | 53 => ⟨S_, .f32⟩
  | 54 => ⟨S256, .f32⟩
  | 55 => ⟨S256, .f32⟩
  | 56 => ⟨S1x256, .f32⟩
  | 57 => ⟨S256, .f32⟩
  | 58 => ⟨S_, .f32⟩
  | 59 => ⟨S256, .f32⟩
  | 60 => ⟨S256, .f32⟩
  | 61 => ⟨S256, .f32⟩
  | 62 => ⟨S256, .f32⟩
  | 63 => ⟨S_, .f32⟩
  | 64 => ⟨S256, .f32⟩
  | 65 => ⟨S256, .f32⟩
  | 66 => ⟨S256, .f32⟩
  | 67 => ⟨S256, .f32⟩
  | 68 => ⟨S256, .f32⟩
  | 69 => ⟨S256, .f32⟩
  | 70 => ⟨S1x256, .f32⟩
  | 71 => ⟨S1x256, .f32⟩
  | 72 => ⟨S2x256, .f32⟩
  | 73 => ⟨S320000x128, .f32⟩
  | 74 => ⟨S2x128, .f32⟩
  | 75 => ⟨S1x128, .f32⟩
  | 76 => ⟨S128, .f32⟩
  | 77 => ⟨S_, .f32⟩
  | 78 => ⟨S128, .f32⟩
  | 79 => ⟨S128, .f32⟩
  | 80 => ⟨S1x128, .f32⟩
  | 81 => ⟨S128, .f32⟩
  | 82 => ⟨S_, .f32⟩
  | 83 => ⟨S128, .f32⟩
  | 84 => ⟨S128, .f32⟩
  | 85 => ⟨S128, .f32⟩
  | 86 => ⟨S128, .f32⟩
  | 87 => ⟨S_, .f32⟩
  | 88 => ⟨S128, .f32⟩
  | 89 => ⟨S128, .f32⟩
  | 90 => ⟨S128, .f32⟩
  | 91 => ⟨S128, .f32⟩
  | 92 => ⟨S128, .f32⟩
  | 93 => ⟨S128, .f32⟩
  | 94 => ⟨S1x128, .f32⟩
  | 95 => ⟨S1x128, .f32⟩
  | 96 => ⟨S2x128, .f32⟩
  | 97 => ⟨S320000x128, .f32⟩
  | _ => ⟨S320000x128, .f32⟩

abbrev hbmTy (i : Nat) : BufTy := match i / 128 with
  | 0 => hbmTy0_0 i
  | 1 => hbmTy0_1 i
  | 2 => hbmTy0_2 i
  | _ => ⟨S320000x128, .f32⟩

abbrev bufTy : (tb : Table) → Fin (tcTables nBuf tb) → BufTy
  | .hbm, ⟨i, _⟩ => hbmTy i
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S128x256, .f32⟩
  | .local _ .vmem, ⟨5, _⟩ => ⟨S1x128x256, .f32⟩
  | .local _ .vmem, ⟨6, _⟩ => ⟨S1x128x256, .f32⟩
  | .local _ .vmem, ⟨7, _⟩ => ⟨S2x256, .f32⟩
  | .local _ .vmem, ⟨8, _⟩ => ⟨S1000x128, .f32⟩
  | .local _ .vmem, ⟨9, _⟩ => ⟨S1000x128, .f32⟩
  | .local _ .vmem, ⟨10, _⟩ => ⟨S1000x128, .f32⟩
  | .local _ .vmem, ⟨11, _⟩ => ⟨S1000x128, .f32⟩
  | .local _ .vmem, ⟨12, _⟩ => ⟨S128x256, .f32⟩
  | .local _ .vmem, ⟨13, _⟩ => ⟨S1x128x256, .f32⟩
  | .local _ .vmem, ⟨14, _⟩ => ⟨S1x128x256, .f32⟩
  | .local _ .vmem, ⟨15, _⟩ => ⟨S2x256, .f32⟩
  | .local _ .vmem, ⟨16, _⟩ => ⟨S256x128, .f32⟩
  | .local _ .vmem, ⟨17, _⟩ => ⟨S1000x128, .f32⟩
  | .local _ .vmem, ⟨18, _⟩ => ⟨S1000x128, .f32⟩
  | .local _ .vmem, ⟨19, _⟩ => ⟨S2x128, .f32⟩
  | .local _ .vmem, ⟨20, _⟩ => ⟨S1000x128, .f32⟩
  | .local _ .vmem, ⟨21, _⟩ => ⟨S1000x128, .f32⟩
  | .local _ .vmem, ⟨22, _⟩ => ⟨S2x128, .f32⟩
  | .local _ .vmem, ⟨23, _⟩ => ⟨S1000x128, .f32⟩
  | .local _ .vmem, ⟨24, _⟩ => ⟨S1000x128, .f32⟩
  | .local _ .vmem, ⟨25, _⟩ => ⟨S8000x128, .f32⟩
  | .local _ .vmem, ⟨26, _⟩ => ⟨S8000x128, .f32⟩
  | .local _ .vmem, ⟨27, _⟩ => ⟨S8000x128, .f32⟩
  | .local _ .vmem, ⟨28, _⟩ => ⟨S8000x128, .f32⟩
  | .local _ .vmem, ⟨29, _⟩ => ⟨S128x256, .f32⟩
  | .local _ .vmem, ⟨30, _⟩ => ⟨S128x256, .f32⟩
  | .local _ .vmem, ⟨31, _⟩ => ⟨S2x256, .f32⟩
  | .local _ .vmem, ⟨32, _⟩ => ⟨S8000x128, .f32⟩
  | .local _ .vmem, ⟨33, _⟩ => ⟨S8000x128, .f32⟩
  | .local _ .vmem, ⟨34, _⟩ => ⟨S8000x128, .f32⟩
  | .local _ .vmem, ⟨35, _⟩ => ⟨S8000x128, .f32⟩
  | .local _ .vmem, ⟨36, _⟩ => ⟨S128x256, .f32⟩
  | .local _ .vmem, ⟨37, _⟩ => ⟨S128x256, .f32⟩
  | .local _ .vmem, ⟨38, _⟩ => ⟨S2x256, .f32⟩
  | .local _ .vmem, ⟨39, _⟩ => ⟨S256x128, .f32⟩
  | .local _ .vmem, ⟨40, _⟩ => ⟨S8000x128, .f32⟩
  | .local _ .vmem, ⟨41, _⟩ => ⟨S8000x128, .f32⟩
  | .local _ .vmem, ⟨42, _⟩ => ⟨S2x128, .f32⟩
  | .local _ .vmem, ⟨43, _⟩ => ⟨S8000x128, .f32⟩
  | .local _ .vmem, ⟨44, _⟩ => ⟨S8000x128, .f32⟩
  | .local _ .vmem, ⟨45, _⟩ => ⟨S2x128, .f32⟩
  | .local _ .vmem, ⟨46, _⟩ => ⟨S8000x128, .f32⟩
  | .local _ .vmem, ⟨47, _⟩ => ⟨S8000x128, .f32⟩
  | _, _ => ⟨S320000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_c : Ref sig .tc := ⟨.hbm, 25, rfl⟩
abbrev main_call0_v0 : Ref sig .tc := ⟨.hbm, 26, rfl⟩
abbrev main_call0_v1 : Ref sig .tc := ⟨.hbm, 27, rfl⟩
abbrev main_call0_c_0 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_v5 : Ref sig .tc := ⟨.hbm, 32, rfl⟩
abbrev main_call0_c_1 : Ref sig .tc := ⟨.hbm, 33, rfl⟩
abbrev main_call0_c_2 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_3 : Ref sig .tc := ⟨.hbm, 41, rfl⟩
abbrev main_call0_v12 : Ref sig .tc := ⟨.hbm, 42, rfl⟩
abbrev main_call0_v13 : Ref sig .tc := ⟨.hbm, 43, rfl⟩
abbrev main_call0_v14 : Ref sig .tc := ⟨.hbm, 44, rfl⟩
abbrev main_call0_cst : Ref sig .tc := ⟨.hbm, 45, rfl⟩
abbrev main_call0_v15 : Ref sig .tc := ⟨.hbm, 46, rfl⟩
abbrev main_v4 : Ref sig .tc := ⟨.hbm, 47, rfl⟩
abbrev main_cst : Ref sig .tc := ⟨.hbm, 48, rfl⟩
abbrev main_v5 : Ref sig .tc := ⟨.hbm, 49, rfl⟩
abbrev main_call1_c : Ref sig .tc := ⟨.hbm, 50, rfl⟩
abbrev main_call1_v0 : Ref sig .tc := ⟨.hbm, 51, rfl⟩
abbrev main_call1_v1 : Ref sig .tc := ⟨.hbm, 52, rfl⟩
abbrev main_call1_c_0 : Ref sig .tc := ⟨.hbm, 53, rfl⟩
abbrev main_call1_v2 : Ref sig .tc := ⟨.hbm, 54, rfl⟩
abbrev main_call1_v3 : Ref sig .tc := ⟨.hbm, 55, rfl⟩
abbrev main_call1_v4 : Ref sig .tc := ⟨.hbm, 56, rfl⟩
abbrev main_call1_v5 : Ref sig .tc := ⟨.hbm, 57, rfl⟩
abbrev main_call1_c_1 : Ref sig .tc := ⟨.hbm, 58, rfl⟩
abbrev main_call1_c_2 : Ref sig .tc := ⟨.hbm, 59, rfl⟩
abbrev main_call1_v6 : Ref sig .tc := ⟨.hbm, 60, rfl⟩
abbrev main_call1_v7 : Ref sig .tc := ⟨.hbm, 61, rfl⟩
abbrev main_call1_v8 : Ref sig .tc := ⟨.hbm, 62, rfl⟩
abbrev main_call1_v9 : Ref sig .tc := ⟨.hbm, 63, rfl⟩
abbrev main_call1_v10 : Ref sig .tc := ⟨.hbm, 64, rfl⟩
abbrev main_call1_v11 : Ref sig .tc := ⟨.hbm, 65, rfl⟩
abbrev main_call1_c_3 : Ref sig .tc := ⟨.hbm, 66, rfl⟩
abbrev main_call1_v12 : Ref sig .tc := ⟨.hbm, 67, rfl⟩
abbrev main_call1_v13 : Ref sig .tc := ⟨.hbm, 68, rfl⟩
abbrev main_call1_v14 : Ref sig .tc := ⟨.hbm, 69, rfl⟩
abbrev main_call1_cst : Ref sig .tc := ⟨.hbm, 70, rfl⟩
abbrev main_call1_v15 : Ref sig .tc := ⟨.hbm, 71, rfl⟩
abbrev main_v6 : Ref sig .tc := ⟨.hbm, 72, rfl⟩
abbrev main_cst_0 : Ref sig .tc := ⟨.hbm, 73, rfl⟩
abbrev main_v7 : Ref sig .tc := ⟨.hbm, 74, rfl⟩
abbrev main_call2_c : Ref sig .tc := ⟨.hbm, 75, rfl⟩
abbrev main_call2_v0 : Ref sig .tc := ⟨.hbm, 76, rfl⟩
abbrev main_call2_v1 : Ref sig .tc := ⟨.hbm, 77, rfl⟩
abbrev main_call2_c_0 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_call2_v5 : Ref sig .tc := ⟨.hbm, 82, rfl⟩
abbrev main_call2_c_1 : Ref sig .tc := ⟨.hbm, 83, rfl⟩
abbrev main_call2_c_2 : Ref sig .tc := ⟨.hbm, 84, rfl⟩
abbrev main_call2_v6 : Ref sig .tc := ⟨.hbm, 85, rfl⟩
abbrev main_call2_v7 : Ref sig .tc := ⟨.hbm, 86, rfl⟩
abbrev main_call2_v8 : Ref sig .tc := ⟨.hbm, 87, rfl⟩
abbrev main_call2_v9 : Ref sig .tc := ⟨.hbm, 88, rfl⟩
abbrev main_call2_v10 : Ref sig .tc := ⟨.hbm, 89, rfl⟩
abbrev main_call2_v11 : Ref sig .tc := ⟨.hbm, 90, rfl⟩
abbrev main_call2_c_3 : Ref sig .tc := ⟨.hbm, 91, rfl⟩
abbrev main_call2_v12 : Ref sig .tc := ⟨.hbm, 92, rfl⟩
abbrev main_call2_v13 : Ref sig .tc := ⟨.hbm, 93, rfl⟩
abbrev main_call2_v14 : Ref sig .tc := ⟨.hbm, 94, rfl⟩
abbrev main_call2_cst : Ref sig .tc := ⟨.hbm, 95, rfl⟩
abbrev main_call2_v15 : Ref sig .tc := ⟨.hbm, 96, rfl⟩
abbrev main_v8 : Ref sig .tc := ⟨.hbm, 97, rfl⟩
abbrev main_cst_1 : Ref sig .tc := ⟨.hbm, 98, rfl⟩
abbrev main_v9 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v10 : Ref sig .tc := ⟨.hbm, 122, rfl⟩
abbrev main_cst_2 : Ref sig .tc := ⟨.hbm, 123, rfl⟩
abbrev main_v11 : Ref sig .tc := ⟨.hbm, 124, rfl⟩
abbrev main_call4_c : Ref sig .tc := ⟨.hbm, 125, rfl⟩
abbrev main_call4_v0 : Ref sig .tc := ⟨.hbm, 126, rfl⟩
abbrev main_call4_v1 : Ref sig .tc := ⟨.hbm, 127, rfl⟩
abbrev main_call4_c_0 : Ref sig .tc := ⟨.hbm, 128, rfl⟩
abbrev main_call4_v2 : Ref sig .tc := ⟨.hbm, 129, rfl⟩
abbrev main_call4_v3 : Ref sig .tc := ⟨.hbm, 130, rfl⟩
abbrev main_call4_v4 : Ref sig .tc := ⟨.hbm, 131, rfl⟩
abbrev main_call4_v5 : Ref sig .tc := ⟨.hbm, 132, rfl⟩
abbrev main_call4_c_1 : Ref sig .tc := ⟨.hbm, 133, rfl⟩
abbrev main_call4_c_2 : Ref sig .tc := ⟨.hbm, 134, rfl⟩
abbrev main_call4_v6 : Ref sig .tc := ⟨.hbm, 135, rfl⟩
abbrev main_call4_v7 : Ref sig .tc := ⟨.hbm, 136, rfl⟩
abbrev main_call4_v8 : Ref sig .tc := ⟨.hbm, 137, rfl⟩
abbrev main_call4_v9 : Ref sig .tc := ⟨.hbm, 138, rfl⟩
abbrev main_call4_v10 : Ref sig .tc := ⟨.hbm, 139, rfl⟩
abbrev main_call4_v11 : Ref sig .tc := ⟨.hbm, 140, rfl⟩
abbrev main_call4_c_3 : Ref sig .tc := ⟨.hbm, 141, rfl⟩
abbrev main_call4_v12 : Ref sig .tc := ⟨.hbm, 142, rfl⟩
abbrev main_call4_v13 : Ref sig .tc := ⟨.hbm, 143, rfl⟩
abbrev main_call4_v14 : Ref sig .tc := ⟨.hbm, 144, rfl⟩
abbrev main_call4_cst : Ref sig .tc := ⟨.hbm, 145, rfl⟩
abbrev main_call4_v15 : Ref sig .tc := ⟨.hbm, 146, rfl⟩
abbrev main_v12 : Ref sig .tc := ⟨.hbm, 147, rfl⟩
abbrev main_cst_3 : Ref sig .tc := ⟨.hbm, 148, rfl⟩
abbrev main_v13 : Ref sig .tc := ⟨.hbm, 149, rfl⟩
abbrev main_call5_c : Ref sig .tc := ⟨.hbm, 150, rfl⟩
abbrev main_call5_v0 : Ref sig .tc := ⟨.hbm, 151, rfl⟩
abbrev main_call5_v1 : Ref sig .tc := ⟨.hbm, 152, rfl⟩
abbrev main_call5_c_0 : Ref sig .tc := ⟨.hbm, 153, rfl⟩
abbrev main_call5_v2 : Ref sig .tc := ⟨.hbm, 154, rfl⟩
abbrev main_call5_v3 : Ref sig .tc := ⟨.hbm, 155, rfl⟩
abbrev main_call5_v4 : Ref sig .tc := ⟨.hbm, 156, rfl⟩
abbrev main_call5_v5 : Ref sig .tc := ⟨.hbm, 157, rfl⟩
abbrev main_call5_c_1 : Ref sig .tc := ⟨.hbm, 158, rfl⟩
abbrev main_call5_c_2 : Ref sig .tc := ⟨.hbm, 159, rfl⟩
abbrev main_call5_v6 : Ref sig .tc := ⟨.hbm, 160, rfl⟩
abbrev main_call5_v7 : Ref sig .tc := ⟨.hbm, 161, rfl⟩
abbrev main_call5_v8 : Ref sig .tc := ⟨.hbm, 162, rfl⟩
abbrev main_call5_v9 : Ref sig .tc := ⟨.hbm, 163, rfl⟩
abbrev main_call5_v10 : Ref sig .tc := ⟨.hbm, 164, rfl⟩
abbrev main_call5_v11 : Ref sig .tc := ⟨.hbm, 165, rfl⟩
abbrev main_call5_c_3 : Ref sig .tc := ⟨.hbm, 166, rfl⟩
abbrev main_call5_v12 : Ref sig .tc := ⟨.hbm, 167, rfl⟩
abbrev main_call5_v13 : Ref sig .tc := ⟨.hbm, 168, rfl⟩
abbrev main_call5_v14 : Ref sig .tc := ⟨.hbm, 169, rfl⟩
abbrev main_call5_cst : Ref sig .tc := ⟨.hbm, 170, rfl⟩
abbrev main_call5_v15 : Ref sig .tc := ⟨.hbm, 171, rfl⟩
abbrev main_v14 : Ref sig .tc := ⟨.hbm, 172, rfl⟩
abbrev main_cst_4 : Ref sig .tc := ⟨.hbm, 173, rfl⟩
abbrev main_v15 : Ref sig .tc := ⟨.hbm, 174, rfl⟩
abbrev main_v16 : Ref sig .tc := ⟨.hbm, 175, rfl⟩
abbrev main_v17 : Ref sig .tc := ⟨.hbm, 176, rfl⟩
abbrev main_v18 : Ref sig .tc := ⟨.hbm, 177, rfl⟩
abbrev main_v19 : Ref sig .tc := ⟨.hbm, 178, rfl⟩
abbrev main_cst_5 : Ref sig .tc := ⟨.hbm, 179, rfl⟩
abbrev main_v20 : Ref sig .tc := ⟨.hbm, 180, rfl⟩
abbrev main_v21 : Ref sig .tc := ⟨.hbm, 181, rfl⟩
abbrev main_v22 : Ref sig .tc := ⟨.hbm, 182, rfl⟩
abbrev main_v23 : Ref sig .tc := ⟨.hbm, 183, rfl⟩
abbrev main_cst_6 : Ref sig .tc := ⟨.hbm, 184, rfl⟩
abbrev main_v24 : Ref sig .tc := ⟨.hbm, 185, rfl⟩
abbrev main_v25 : Ref sig .tc := ⟨.hbm, 186, rfl⟩
abbrev main_v26 : Ref sig .tc := ⟨.hbm, 187, rfl⟩
abbrev main_v27 : Ref sig .tc := ⟨.hbm, 188, rfl⟩
abbrev main_cst_7 : Ref sig .tc := ⟨.hbm, 189, rfl⟩
abbrev main_v28 : Ref sig .tc := ⟨.hbm, 190, rfl⟩
abbrev main_v29 : Ref sig .tc := ⟨.hbm, 191, rfl⟩
abbrev main_v30 : Ref sig .tc := ⟨.hbm, 192, rfl⟩
abbrev main_v31 : Ref sig .tc := ⟨.hbm, 193, rfl⟩
abbrev main_v32 : Ref sig .tc := ⟨.hbm, 194, rfl⟩
abbrev main_v33 : Ref sig .tc := ⟨.hbm, 195, rfl⟩
abbrev main_v34 : Ref sig .tc := ⟨.hbm, 196, rfl⟩
abbrev main_v35 : Ref sig .tc := ⟨.hbm, 197, rfl⟩
abbrev main_v36 : Ref sig .tc := ⟨.hbm, 198, rfl⟩
abbrev main_v37_0 : Ref sig .tc := ⟨.hbm, 199, rfl⟩
abbrev main_v37_1 : Ref sig .tc := ⟨.hbm, 200, rfl⟩
abbrev main_v38 : Ref sig .tc := ⟨.hbm, 201, rfl⟩
abbrev main_v39 : Ref sig .tc := ⟨.hbm, 202, rfl⟩
abbrev main_cst_8 : Ref sig .tc := ⟨.hbm, 203, rfl⟩
abbrev main_v40 : Ref sig .tc := ⟨.hbm, 204, rfl⟩
abbrev main_v41 : Ref sig .tc := ⟨.hbm, 205, rfl⟩
abbrev main_v42 : Ref sig .tc := ⟨.hbm, 206, rfl⟩
abbrev main_v43 : Ref sig .tc := ⟨.hbm, 207, rfl⟩
abbrev main_cst_9 : Ref sig .tc := ⟨.hbm, 208, rfl⟩
abbrev main_v44 : Ref sig .tc := ⟨.hbm, 209, rfl⟩
abbrev main_v45 : Ref sig .tc := ⟨.hbm, 210, rfl⟩
abbrev main_v46 : Ref sig .tc := ⟨.hbm, 211, rfl⟩
abbrev main_v47 : Ref sig .tc := ⟨.hbm, 212, rfl⟩
abbrev main_cst_10 : Ref sig .tc := ⟨.hbm, 213, rfl⟩
abbrev main_v48 : Ref sig .tc := ⟨.hbm, 214, rfl⟩
abbrev main_v49 : Ref sig .tc := ⟨.hbm, 215, rfl⟩
abbrev main_v50 : Ref sig .tc := ⟨.hbm, 216, rfl⟩
abbrev main_v51 : Ref sig .tc := ⟨.hbm, 217, rfl⟩
abbrev main_v52 : Ref sig .tc := ⟨.hbm, 218, rfl⟩
abbrev main_v53 : Ref sig .tc := ⟨.hbm, 219, rfl⟩
abbrev main_v54 : Ref sig .tc := ⟨.hbm, 220, rfl⟩
abbrev main_v55 : Ref sig .tc := ⟨.hbm, 221, rfl⟩
abbrev main_v56 : Ref sig .tc := ⟨.hbm, 222, rfl⟩
abbrev main_v57 : Ref sig .tc := ⟨.hbm, 223, rfl⟩
abbrev main_cst_11 : Ref sig .tc := ⟨.hbm, 224, rfl⟩
abbrev main_v58 : Ref sig .tc := ⟨.hbm, 225, rfl⟩
abbrev main_v59 : Ref sig .tc := ⟨.hbm, 226, rfl⟩
abbrev main_v60 : Ref sig .tc := ⟨.hbm, 227, rfl⟩
abbrev main_v61 : Ref sig .tc := ⟨.hbm, 228, rfl⟩
abbrev main_v62 : Ref sig .tc := ⟨.hbm, 229, rfl⟩
abbrev main_c : Ref sig .tc := ⟨.hbm, 230, rfl⟩
abbrev main_v63 : Ref sig .tc := ⟨.hbm, 231, rfl⟩
abbrev main_v64 : Ref sig .tc := ⟨.hbm, 232, rfl⟩
abbrev main_c_12 : Ref sig .tc := ⟨.hbm, 233, rfl⟩
abbrev main_v65 : Ref sig .tc := ⟨.hbm, 234, rfl⟩
abbrev main_v66 : Ref sig .tc := ⟨.hbm, 235, rfl⟩
abbrev main_v67 : Ref sig .tc := ⟨.hbm, 236, rfl⟩
abbrev main_v68 : Ref sig .tc := ⟨.hbm, 237, rfl⟩
abbrev main_v69 : Ref sig .tc := ⟨.hbm, 238, rfl⟩
abbrev main_v70 : Ref sig .tc := ⟨.hbm, 239, rfl⟩
abbrev main_v71 : Ref sig .tc := ⟨.hbm, 240, rfl⟩
abbrev main_v72 : Ref sig .tc := ⟨.hbm, 241, rfl⟩
abbrev main_v73 : Ref sig .tc := ⟨.hbm, 242, rfl⟩
abbrev main_c_13 : Ref sig .tc := ⟨.hbm, 243, rfl⟩
abbrev main_v74 : Ref sig .tc := ⟨.hbm, 244, rfl⟩
abbrev main_v75 : Ref sig .tc := ⟨.hbm, 245, rfl⟩
abbrev main_c_14 : Ref sig .tc := ⟨.hbm, 246, rfl⟩
abbrev main_v76 : Ref sig .tc := ⟨.hbm, 247, rfl⟩
abbrev main_v77 : Ref sig .tc := ⟨.hbm, 248, rfl⟩
abbrev main_v78 : Ref sig .tc := ⟨.hbm, 249, rfl⟩
abbrev main_v79 : Ref sig .tc := ⟨.hbm, 250, rfl⟩
abbrev main_v80 : Ref sig .tc := ⟨.hbm, 251, rfl⟩
abbrev main_v81 : Ref sig .tc := ⟨.hbm, 252, rfl⟩
abbrev main_v82 : Ref sig .tc := ⟨.hbm, 253, rfl⟩
abbrev main_v83 : Ref sig .tc := ⟨.hbm, 254, rfl⟩
abbrev main_v84 : Ref sig .tc := ⟨.hbm, 255, rfl⟩
abbrev main_c_15 : Ref sig .tc := ⟨.hbm, 256, rfl⟩
abbrev main_v85 : Ref sig .tc := ⟨.hbm, 257, rfl⟩
abbrev main_v86 : Ref sig .tc := ⟨.hbm, 258, rfl⟩
abbrev main_c_16 : Ref sig .tc := ⟨.hbm, 259, rfl⟩
abbrev main_v87 : Ref sig .tc := ⟨.hbm, 260, rfl⟩
abbrev main_v88 : Ref sig .tc := ⟨.hbm, 261, rfl⟩
abbrev main_v89 : Ref sig .tc := ⟨.hbm, 262, rfl⟩
abbrev main_v90 : Ref sig .tc := ⟨.hbm, 263, rfl⟩
abbrev main_v91 : Ref sig .tc := ⟨.hbm, 264, rfl⟩
abbrev main_v92 : Ref sig .tc := ⟨.hbm, 265, rfl⟩
abbrev main_v93 : Ref sig .tc := ⟨.hbm, 266, rfl⟩
abbrev main_v94 : Ref sig .tc := ⟨.hbm, 267, rfl⟩
abbrev main_v95 : Ref sig .tc := ⟨.hbm, 268, rfl⟩
abbrev main_c_17 : Ref sig .tc := ⟨.hbm, 269, rfl⟩
abbrev main_v96 : Ref sig .tc := ⟨.hbm, 270, rfl⟩
abbrev main_v97 : Ref sig .tc := ⟨.hbm, 271, rfl⟩
abbrev main_c_18 : Ref sig .tc := ⟨.hbm, 272, rfl⟩
abbrev main_v98 : Ref sig .tc := ⟨.hbm, 273, rfl⟩
abbrev main_v99 : Ref sig .tc := ⟨.hbm, 274, rfl⟩
abbrev main_v100 : Ref sig .tc := ⟨.hbm, 275, rfl⟩
abbrev main_v101 : Ref sig .tc := ⟨.hbm, 276, rfl⟩
abbrev main_v102 : Ref sig .tc := ⟨.hbm, 277, rfl⟩
abbrev main_v103 : Ref sig .tc := ⟨.hbm, 278, rfl⟩
abbrev main_v104 : Ref sig .tc := ⟨.hbm, 279, rfl⟩
abbrev main_v105 : Ref sig .tc := ⟨.hbm, 280, rfl⟩
abbrev main_v106 : Ref sig .tc := ⟨.hbm, 281, rfl⟩
abbrev main_c_19 : Ref sig .tc := ⟨.hbm, 282, rfl⟩
abbrev main_v107 : Ref sig .tc := ⟨.hbm, 283, rfl⟩
abbrev main_v108 : Ref sig .tc := ⟨.hbm, 284, rfl⟩
abbrev main_c_20 : Ref sig .tc := ⟨.hbm, 285, rfl⟩
abbrev main_v109 : Ref sig .tc := ⟨.hbm, 286, rfl⟩
abbrev main_v110 : Ref sig .tc := ⟨.hbm, 287, rfl⟩
abbrev main_v111 : Ref sig .tc := ⟨.hbm, 288, rfl⟩
abbrev main_v112 : Ref sig .tc := ⟨.hbm, 289, rfl⟩
abbrev main_v113 : Ref sig .tc := ⟨.hbm, 290, rfl⟩
abbrev main_v114 : Ref sig .tc := ⟨.hbm, 291, rfl⟩
abbrev main_v115 : Ref sig .tc := ⟨.hbm, 292, rfl⟩
abbrev main_v116 : Ref sig .tc := ⟨.hbm, 293, rfl⟩
abbrev main_v117 : Ref sig .tc := ⟨.hbm, 294, rfl⟩
abbrev main_c_21 : Ref sig .tc := ⟨.hbm, 295, rfl⟩
abbrev main_v118 : Ref sig .tc := ⟨.hbm, 296, rfl⟩
abbrev main_v119 : Ref sig .tc := ⟨.hbm, 297, rfl⟩
abbrev main_c_22 : Ref sig .tc := ⟨.hbm, 298, rfl⟩
abbrev main_v120 : Ref sig .tc := ⟨.hbm, 299, rfl⟩
abbrev main_v121 : Ref sig .tc := ⟨.hbm, 300, rfl⟩
abbrev main_v122 : Ref sig .tc := ⟨.hbm, 301, rfl⟩
abbrev main_v123 : Ref sig .tc := ⟨.hbm, 302, rfl⟩
abbrev main_v124 : Ref sig .tc := ⟨.hbm, 303, rfl⟩
abbrev main_v125 : Ref sig .tc := ⟨.hbm, 304, rfl⟩
abbrev main_v126 : Ref sig .tc := ⟨.hbm, 305, rfl⟩
abbrev main_v127 : Ref sig .tc := ⟨.hbm, 306, rfl⟩
abbrev main_v128 : Ref sig .tc := ⟨.hbm, 307, rfl⟩
abbrev main_v129 : Ref sig .tc := ⟨.hbm, 308, rfl⟩
abbrev main_cst_23 : Ref sig .tc := ⟨.hbm, 309, rfl⟩
abbrev main_v130 : Ref sig .tc := ⟨.hbm, 310, rfl⟩
abbrev main_v131 : Ref sig .tc := ⟨.hbm, 311, rfl⟩
abbrev main_v132 : Ref sig .tc := ⟨.hbm, 312, rfl⟩
abbrev main_v133 : Ref sig .tc := ⟨.hbm, 313, rfl⟩
abbrev main_cst_24 : Ref sig .tc := ⟨.hbm, 314, rfl⟩
abbrev main_v134 : Ref sig .tc := ⟨.hbm, 315, rfl⟩
abbrev main_v135 : Ref sig .tc := ⟨.hbm, 316, rfl⟩
abbrev main_v136 : Ref sig .tc := ⟨.hbm, 317, rfl⟩
abbrev main_v137 : Ref sig .tc := ⟨.hbm, 318, rfl⟩
abbrev main_cst_25 : Ref sig .tc := ⟨.hbm, 319, rfl⟩
abbrev main_v138 : Ref sig .tc := ⟨.hbm, 320, rfl⟩
abbrev main_v139 : Ref sig .tc := ⟨.hbm, 321, rfl⟩
abbrev main_v140 : Ref sig .tc := ⟨.hbm, 322, rfl⟩
abbrev main_v141 : Ref sig .tc := ⟨.hbm, 323, rfl⟩
abbrev main_v142 : Ref sig .tc := ⟨.hbm, 324, rfl⟩
abbrev main_v143 : Ref sig .tc := ⟨.hbm, 325, rfl⟩
abbrev main_v144 : Ref sig .tc := ⟨.hbm, 326, rfl⟩
abbrev main_v145 : Ref sig .tc := ⟨.hbm, 327, rfl⟩
abbrev main_v146 : Ref sig .tc := ⟨.hbm, 328, rfl⟩
abbrev main_v147_0 : Ref sig .tc := ⟨.hbm, 329, rfl⟩
abbrev main_v147_1 : Ref sig .tc := ⟨.hbm, 330, rfl⟩
abbrev main_v148 : Ref sig .tc := ⟨.hbm, 331, rfl⟩
abbrev main_v149 : Ref sig .tc := ⟨.hbm, 332, rfl⟩
abbrev main_cst_26 : Ref sig .tc := ⟨.hbm, 333, rfl⟩
abbrev main_v150 : Ref sig .tc := ⟨.hbm, 334, rfl⟩
abbrev main_v151 : Ref sig .tc := ⟨.hbm, 335, rfl⟩
abbrev main_v152 : Ref sig .tc := ⟨.hbm, 336, rfl⟩
abbrev main_v153 : Ref sig .tc := ⟨.hbm, 337, rfl⟩
abbrev main_cst_27 : Ref sig .tc := ⟨.hbm, 338, rfl⟩
abbrev main_v154 : Ref sig .tc := ⟨.hbm, 339, rfl⟩
abbrev main_v155 : Ref sig .tc := ⟨.hbm, 340, rfl⟩
abbrev main_v156 : Ref sig .tc := ⟨.hbm, 341, rfl⟩
abbrev main_v157 : Ref sig .tc := ⟨.hbm, 342, rfl⟩
abbrev main_cst_28 : Ref sig .tc := ⟨.hbm, 343, rfl⟩
abbrev main_v158 : Ref sig .tc := ⟨.hbm, 344, rfl⟩
abbrev main_v159 : Ref sig .tc := ⟨.hbm, 345, rfl⟩
abbrev main_v160 : Ref sig .tc := ⟨.hbm, 346, rfl⟩
abbrev main_v161 : Ref sig .tc := ⟨.hbm, 347, rfl⟩
abbrev main_v162 : Ref sig .tc := ⟨.hbm, 348, rfl⟩
abbrev main_v163 : Ref sig .tc := ⟨.hbm, 349, rfl⟩
abbrev main_v164 : Ref sig .tc := ⟨.hbm, 350, rfl⟩
abbrev main_v165 : Ref sig .tc := ⟨.hbm, 351, rfl⟩
abbrev main_v166 : Ref sig .tc := ⟨.hbm, 352, rfl⟩
abbrev main_v167 : Ref sig .tc := ⟨.hbm, 353, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc1_stg7_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg2_1 : Ref sig .tc := ⟨.vmem, 24, rfl⟩
abbrev cc3_stg0_0 : Ref sig .tc := ⟨.vmem, 25, rfl⟩
abbrev cc3_stg0_1 : Ref sig .tc := ⟨.vmem, 26, rfl⟩
abbrev cc3_stg1_0 : Ref sig .tc := ⟨.vmem, 27, rfl⟩
abbrev cc3_stg1_1 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg5_0 : Ref sig .tc := ⟨.vmem, 39, rfl⟩
abbrev cc4_stg6_0 : Ref sig .tc := ⟨.vmem, 40, rfl⟩
abbrev cc4_stg6_1 : Ref sig .tc := ⟨.vmem, 41, rfl⟩
abbrev cc4_stg7_0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg2_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem3_1 : DmaSem sig := 14
abbrev cc1_sem4_0 : DmaSem sig := 15
abbrev cc1_sem5_0 : DmaSem sig := 16
abbrev cc1_sem6_0 : DmaSem sig := 17
abbrev cc1_sem6_1 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem3_0 : DmaSem sig := 30
abbrev cc3_sem4_0 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41
abbrev cc4_sem7_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem2_1 : DmaSem sig := 47

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c5_i32 : BitVec 32 := 5#32
  let v0 : BitVec 32 := Scalar.divsi arg0 c5_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c5_i32 c0_i32_1
  let v7 : BitVec 32 := Scalar.extui v6
  let c0_i32_2 : BitVec 32 := 0#32
  let v8 : BitVec 1 := Scalar.cmpi .slt c5_i32 c0_i32_2
  let v9 : BitVec 32 := Scalar.extui v8
  let v10 : BitVec 32 := Scalar.subi v7 v9
  let v11 : BitVec 1 := Scalar.cmpi .ne v5 v10
  let v12 : BitVec 32 := Scalar.remsi arg0 c5_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x128x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S2x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S2x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![30], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S2x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![40], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S8000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S2x256 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev grid4 : Pipeline.Grid := ⟨1, ![40], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S8000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S2x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S8000x128 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S2x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev grid5 : Pipeline.Grid := ⟨1, ![40], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S2x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S8000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]
-- ==== ReferenceIdeal.lean ====
abbrev S320000x128 : Shape := ⟨2, ![320000, 128]⟩
abbrev S30000x128 : Shape := ⟨2, ![30000, 128]⟩
abbrev S5000x3 : Shape := ⟨2, ![5000, 3]⟩
abbrev S5000x4 : Shape := ⟨2, ![5000, 4]⟩
abbrev S5000x5 : Shape := ⟨2, ![5000, 5]⟩
abbrev S5000x6 : Shape := ⟨2, ![5000, 6]⟩
abbrev S5000x7 : Shape := ⟨2, ![5000, 7]⟩
abbrev S5000x8 : Shape := ⟨2, ![5000, 8]⟩
abbrev S2x6x128x128 : Shape := ⟨4, ![2, 6, 128, 128]⟩
abbrev S384x256 : Shape := ⟨2, ![384, 256]⟩
abbrev S256 : Shape := ⟨1, ![256]⟩
abbrev S256x128 : Shape := ⟨2, ![256, 128]⟩
abbrev S128 : Shape := ⟨1, ![128]⟩
abbrev S256x256 : Shape := ⟨2, ![256, 256]⟩
abbrev S_ : Shape := ⟨0, ![]⟩
abbrev S5000x3x1 : Shape := ⟨3, ![5000, 3, 1]⟩
abbrev S1 : Shape := ⟨1, ![1]⟩
abbrev S1x1x1 : Shape := ⟨3, ![1, 1, 1]⟩
abbrev S5000x3x128 : Shape := ⟨3, ![5000, 3, 128]⟩
abbrev S5000x128 : Shape := ⟨2, ![5000, 128]⟩
abbrev S5000x4x1 : Shape := ⟨3, ![5000, 4, 1]⟩
abbrev S5000x4x128 : Shape := ⟨3, ![5000, 4, 128]⟩
abbrev S5000x5x1 : Shape := ⟨3, ![5000, 5, 1]⟩
abbrev S5000x5x128 : Shape := ⟨3, ![5000, 5, 128]⟩
abbrev S5000x6x1 : Shape := ⟨3, ![5000, 6, 1]⟩
abbrev S5000x6x128 : Shape := ⟨3, ![5000, 6, 128]⟩
abbrev S5000x7x1 : Shape := ⟨3, ![5000, 7, 1]⟩
abbrev S5000x7x128 : Shape := ⟨3, ![5000, 7, 128]⟩
abbrev S5000x8x1 : Shape := ⟨3, ![5000, 8, 1]⟩
abbrev S5000x8x128 : Shape := ⟨3, ![5000, 8, 128]⟩
abbrev S1x1x128x128 : Shape := ⟨4, ![1, 1, 128, 128]⟩
abbrev S128x128 : Shape := ⟨2, ![128, 128]⟩
abbrev S30000x256 : Shape := ⟨2, ![30000, 256]⟩
abbrev S30000x384 : Shape := ⟨2, ![30000, 384]⟩
abbrev S1x256 : Shape := ⟨2, ![1, 256]⟩
abbrev S1x128 : Shape := ⟨2, ![1, 128]⟩
abbrev S15000 : Shape := ⟨1, ![15000]⟩
abbrev S15000x128 : Shape := ⟨2, ![15000, 128]⟩
abbrev S15000x1 : Shape := ⟨2, ![15000, 1]⟩
abbrev S20000 : Shape := ⟨1, ![20000]⟩
abbrev S20000x128 : Shape := ⟨2, ![20000, 128]⟩
abbrev S20000x1 : Shape := ⟨2, ![20000, 1]⟩
abbrev S25000 : Shape := ⟨1, ![25000]⟩
abbrev S25000x128 : Shape := ⟨2, ![25000, 128]⟩
abbrev S25000x1 : Shape := ⟨2, ![25000, 1]⟩
abbrev S30000 : Shape := ⟨1, ![30000]⟩
abbrev S30000x1 : Shape := ⟨2, ![30000, 1]⟩
abbrev S35000 : Shape := ⟨1, ![35000]⟩
abbrev S35000x128 : Shape := ⟨2, ![35000, 128]⟩
abbrev S35000x1 : Shape := ⟨2, ![35000, 1]⟩
abbrev S40000 : Shape := ⟨1, ![40000]⟩
abbrev S40000x128 : Shape := ⟨2, ![40000, 128]⟩
abbrev S40000x1 : Shape := ⟨2, ![40000, 1]⟩
abbrev S320000x256 : Shape := ⟨2, ![320000, 256]⟩

abbrev nBuf : Space → Nat
  | .hbm => 484
  | .vmem => 0
  | .smem => 0
  | _ => 0

abbrev hbmTy0_0 (i : Nat) : BufTy := match i % 128 with
  | 0 => ⟨S320000x128, .f32⟩
  | 1 => ⟨S30000x128, .f32⟩
  | 2 => ⟨S5000x3, .i32⟩
  | 3 => ⟨S5000x4, .i32⟩
  | 4 => ⟨S5000x5, .i32⟩
  | 5 => ⟨S5000x6, .i32⟩
  | 6 => ⟨S5000x7, .i32⟩
  | 7 => ⟨S5000x8, .i32⟩
  | 8 => ⟨S2x6x128x128, .f32⟩
  | 9 => ⟨S384x256, .f32⟩
  | 10 => ⟨S256, .f32⟩
  | 11 => ⟨S256, .f32⟩
  | 12 => ⟨S256x128, .f32⟩
  | 13 => ⟨S128, .f32⟩
  | 14 => ⟨S128, .f32⟩
  | 15 => ⟨S256x256, .f32⟩
  | 16 => ⟨S256, .f32⟩
  | 17 => ⟨S256, .f32⟩
  | 18 => ⟨S256x128, .f32⟩
  | 19 => ⟨S128, .f32⟩
  | 20 => ⟨S128, .f32⟩
  | 21 => ⟨S_, .i32⟩
  | 22 => ⟨S5000x3, .i32⟩
  | 23 => ⟨S5000x3, .i1⟩
  | 24 => ⟨S_, .i32⟩
  | 25 => ⟨S5000x3, .i32⟩
  | 26 => ⟨S5000x3, .i32⟩
  | 27 => ⟨S5000x3, .i32⟩
  | 28 => ⟨S5000x3x1, .i32⟩
  | 29 => ⟨S1, .i32⟩
  | 30 => ⟨S_, .i32⟩
  | 31 => ⟨S5000x3x1, .i32⟩
  | 32 => ⟨S5000x3x1, .i1⟩
  | 33 => ⟨S1x1x1, .i32⟩
  | 34 => ⟨S5000x3x1, .i32⟩
  | 35 => ⟨S5000x3x1, .i1⟩
  | 36 => ⟨S5000x3x1, .i1⟩
  | 37 => ⟨S_, .i1⟩
  | 38 => ⟨S5000x3, .i1⟩
  | 39 => ⟨S5000x3x128, .f32⟩
  | 40 => ⟨S5000x3x128, .i1⟩
  | 41 => ⟨S_, .f32⟩
  | 42 => ⟨S5000x3x128, .f32⟩
  | 43 => ⟨S5000x3x128, .f32⟩
  | 44 => ⟨S_, .f32⟩
  | 45 => ⟨S5000x128, .f32⟩
  | 46 => ⟨S_, .i32⟩
  | 47 => ⟨S5000x4, .i32⟩
  | 48 => ⟨S5000x4, .i1⟩
  | 49 => ⟨S_, .i32⟩
  | 50 => ⟨S5000x4, .i32⟩
  | 51 => ⟨S5000x4, .i32⟩
  | 52 => ⟨S5000x4, .i32⟩
  | 53 => ⟨S5000x4x1, .i32⟩
  | 54 => ⟨S1, .i32⟩
  | 55 => ⟨S_, .i32⟩
  | 56 => ⟨S5000x4x1, .i32⟩
  | 57 => ⟨S5000x4x1, .i1⟩
  | 58 => ⟨S1x1x1, .i32⟩
  | 59 => ⟨S5000x4x1, .i32⟩
  | 60 => ⟨S5000x4x1, .i1⟩
  | 61 => ⟨S5000x4x1, .i1⟩
  | 62 => ⟨S_, .i1⟩
  | 63 => ⟨S5000x4, .i1⟩
  | 64 => ⟨S5000x4x128, .f32⟩
  | 65 => ⟨S5000x4x128, .i1⟩
  | 66 => ⟨S_, .f32⟩
  | 67 => ⟨S5000x4x128, .f32⟩
  | 68 => ⟨S5000x4x128, .f32⟩
  | 69 => ⟨S_, .f32⟩
  | 70 => ⟨S5000x128, .f32⟩
  | 71 => ⟨S_, .i32⟩
  | 72 => ⟨S5000x5, .i32⟩
  | 73 => ⟨S5000x5, .i1⟩
  | 74 => ⟨S_, .i32⟩
  | 75 => ⟨S5000x5, .i32⟩
  | 76 => ⟨S5000x5, .i32⟩
  | 77 => ⟨S5000x5, .i32⟩
  | 78 => ⟨S5000x5x1, .i32⟩
  | 79 => ⟨S1, .i32⟩
  | 80 => ⟨S_, .i32⟩
  | 81 => ⟨S5000x5x1, .i32⟩
  | 82 => ⟨S5000x5x1, .i1⟩
  | 83 => ⟨S1x1x1, .i32⟩
  | 84 => ⟨S5000x5x1, .i32⟩
  | 85 => ⟨S5000x5x1, .i1⟩
  | 86 => ⟨S5000x5x1, .i1⟩
  | 87 => ⟨S_, .i1⟩
  | 88 => ⟨S5000x5, .i1⟩
  | 89 => ⟨S5000x5x128, .f32⟩
  | 90 => ⟨S5000x5x128, .i1⟩
  | 91 => ⟨S_, .f32⟩
  | 92 => ⟨S5000x5x128, .f32⟩
  | 93 => ⟨S5000x5x128, .f32⟩
  | 94 => ⟨S_, .f32⟩
  | 95 => ⟨S5000x128, .f32⟩
  | 96 => ⟨S_, .i32⟩
  | 97 => ⟨S5000x6, .i32⟩
  | 98 => ⟨S5000x6, .i1⟩
  | 99 => ⟨S_, .i32⟩
  | 100 => ⟨S5000x6, .i32⟩
  | 101 => ⟨S5000x6, .i32⟩
  | 102 => ⟨S5000x6, .i32⟩
  | 103 => ⟨S5000x6x1, .i32⟩
  | 104 => ⟨S1, .i32⟩
  | 105 => ⟨S_, .i32⟩
  | 106 => ⟨S5000x6x1, .i32⟩
  | 107 => ⟨S5000x6x1, .i1⟩
  | 108 => ⟨S1x1x1, .i32⟩
  | 109 => ⟨S5000x6x1, .i32⟩
  | 110 => ⟨S5000x6x1, .i1⟩
  | 111 => ⟨S5000x6x1, .i1⟩
  | 112 => ⟨S_, .i1⟩
  | 113 => ⟨S5000x6, .i1⟩
  | 114 => ⟨S5000x6x128, .f32⟩
  | 115 => ⟨S5000x6x128, .i1⟩
  | 116 => ⟨S_, .f32⟩
  | 117 => ⟨S5000x6x128, .f32⟩
  | 118 => ⟨S5000x6x128, .f32⟩
  | 119 => ⟨S_, .f32⟩
  | 120 => ⟨S5000x128, .f32⟩
  | 121 => ⟨S_, .i32⟩
  | 122 => ⟨S5000x7, .i32⟩
  | 123 => ⟨S5000x7, .i1⟩
  | 124 => ⟨S_, .i32⟩
  | 125 => ⟨S5000x7, .i32⟩
  | 126 => ⟨S5000x7, .i32⟩
  | 127 => ⟨S5000x7, .i32⟩
  | _ => ⟨S320000x128, .f32⟩

abbrev hbmTy0_1 (i : Nat) : BufTy := match i % 128 with
  | 0 => ⟨S5000x7x1, .i32⟩
  | 1 => ⟨S1, .i32⟩
  | 2 => ⟨S_, .i32⟩
  | 3 => ⟨S5000x7x1, .i32⟩
  | 4 => ⟨S5000x7x1, .i1⟩
  | 5 => ⟨S1x1x1, .i32⟩
  | 6 => ⟨S5000x7x1, .i32⟩
  | 7 => ⟨S5000x7x1, .i1⟩
  | 8 => ⟨S5000x7x1, .i1⟩
  | 9 => ⟨S_, .i1⟩
  | 10 => ⟨S5000x7, .i1⟩
  | 11 => ⟨S5000x7x128, .f32⟩
  | 12 => ⟨S5000x7x128, .i1⟩
  | 13 => ⟨S_, .f32⟩
  | 14 => ⟨S5000x7x128, .f32⟩
  | 15 => ⟨S5000x7x128, .f32⟩
  | 16 => ⟨S_, .f32⟩
  | 17 => ⟨S5000x128, .f32⟩
  | 18 => ⟨S_, .i32⟩
  | 19 => ⟨S5000x8, .i32⟩
  | 20 => ⟨S5000x8, .i1⟩
  | 21 => ⟨S_, .i32⟩
  | 22 => ⟨S5000x8, .i32⟩
  | 23 => ⟨S5000x8, .i32⟩
  | 24 => ⟨S5000x8, .i32⟩
  | 25 => ⟨S5000x8x1, .i32⟩
  | 26 => ⟨S1, .i32⟩
  | 27 => ⟨S_, .i32⟩
  | 28 => ⟨S5000x8x1, .i32⟩
  | 29 => ⟨S5000x8x1, .i1⟩
  | 30 => ⟨S1x1x1, .i32⟩
  | 31 => ⟨S5000x8x1, .i32⟩
  | 32 => ⟨S5000x8x1, .i1⟩
  | 33 => ⟨S5000x8x1, .i1⟩
  | 34 => ⟨S_, .i1⟩
  | 35 => ⟨S5000x8, .i1⟩
  | 36 => ⟨S5000x8x128, .f32⟩
  | 37 => ⟨S5000x8x128, .i1⟩
  | 38 => ⟨S_, .f32⟩
  | 39 => ⟨S5000x8x128, .f32⟩
  | 40 => ⟨S5000x8x128, .f32⟩
  | 41 => ⟨S_, .f32⟩
  | 42 => ⟨S5000x128, .f32⟩
  | 43 => ⟨S1x1x128x128, .f32⟩
  | 44 => ⟨S128x128, .f32⟩
  | 45 => ⟨S5000x128, .f32⟩
  | 46 => ⟨S1x1x128x128, .f32⟩
  | 47 => ⟨S128x128, .f32⟩
  | 48 => ⟨S5000x128, .f32⟩
  | 49 => ⟨S1x1x128x128, .f32⟩
  | 50 => ⟨S128x128, .f32⟩
  | 51 => ⟨S5000x128, .f32⟩
  | 52 => ⟨S1x1x128x128, .f32⟩
  | 53 => ⟨S128x128, .f32⟩
  | 54 => ⟨S5000x128, .f32⟩
  | 55 => ⟨S1x1x128x128, .f32⟩
  | 56 => ⟨S128x128, .f32⟩
  | 57 => ⟨S5000x128, .f32⟩
  | 58 => ⟨S1x1x128x128, .f32⟩
  | 59 => ⟨S128x128, .f32⟩
  | 60 => ⟨S5000x128, .f32⟩
  | 61 => ⟨S30000x128, .f32⟩
  | 62 => ⟨S1x1x128x128, .f32⟩
  | 63 => ⟨S128x128, .f32⟩
  | 64 => ⟨S5000x128, .f32⟩
  | 65 => ⟨S1x1x128x128, .f32⟩
  | 66 => ⟨S128x128, .f32⟩
  | 67 => ⟨S5000x128, .f32⟩
  | 68 => ⟨S1x1x128x128, .f32⟩
  | 69 => ⟨S128x128, .f32⟩
  | 70 => ⟨S5000x128, .f32⟩
  | 71 => ⟨S1x1x128x128, .f32⟩
  | 72 => ⟨S128x128, .f32⟩
  | 73 => ⟨S5000x128, .f32⟩
  | 74 => ⟨S1x1x128x128, .f32⟩
  | 75 => ⟨S128x128, .f32⟩
  | 76 => ⟨S5000x128, .f32⟩
  | 77 => ⟨S1x1x128x128, .f32⟩
  | 78 => ⟨S128x128, .f32⟩
  | 79 => ⟨S5000x128, .f32⟩
  | 80 => ⟨S30000x128, .f32⟩
  | 81 => ⟨S30000x256, .f32⟩
  | 82 => ⟨S30000x384, .f32⟩
  | 83 => ⟨S30000x256, .f32⟩
  | 84 => ⟨S_, .f32⟩
  | 85 => ⟨S256, .f32⟩
  | 86 => ⟨S_, .f32⟩
  | 87 => ⟨S256, .f32⟩
  | 88 => ⟨S256, .f32⟩
  | 89 => ⟨S_, .i32⟩
  | 90 => ⟨S_, .f32⟩
  | 91 => ⟨S256, .f32⟩
  | 92 => ⟨S1x256, .f32⟩
  | 93 => ⟨S_, .f32⟩
  | 94 => ⟨S1x256, .f32⟩
  | 95 => ⟨S1x256, .f32⟩
  | 96 => ⟨S30000x256, .f32⟩
  | 97 => ⟨S30000x256, .f32⟩
  | 98 => ⟨S30000x256, .f32⟩
  | 99 => ⟨S_, .f32⟩
  | 100 => ⟨S_, .f32⟩
  | 101 => ⟨S_, .f32⟩
  | 102 => ⟨S_, .f32⟩
  | 103 => ⟨S256, .f32⟩
  | 104 => ⟨S256, .f32⟩
  | 105 => ⟨S256, .f32⟩
  | 106 => ⟨S_, .f32⟩
  | 107 => ⟨S_, .i1⟩
  | 108 => ⟨S_, .f32⟩
  | 109 => ⟨S_, .f32⟩
  | 110 => ⟨S256, .f32⟩
  | 111 => ⟨S256, .f32⟩
  | 112 => ⟨S1x256, .f32⟩
  | 113 => ⟨S30000x256, .f32⟩
  | 114 => ⟨S30000x256, .f32⟩
  | 115 => ⟨S_, .f32⟩
  | 116 => ⟨S256, .f32⟩
  | 117 => ⟨S256, .f32⟩
  | 118 => ⟨S256, .f32⟩
  | 119 => ⟨S1x256, .f32⟩
  | 120 => ⟨S30000x256, .f32⟩
  | 121 => ⟨S30000x256, .f32⟩
  | 122 => ⟨S1x256, .f32⟩
  | 123 => ⟨S30000x256, .f32⟩
  | 124 => ⟨S30000x256, .f32⟩
  | 125 => ⟨S1x256, .f32⟩
  | 126 => ⟨S30000x256, .f32⟩
  | 127 => ⟨S30000x256, .f32⟩
  | _ => ⟨S320000x128, .f32⟩

abbrev hbmTy0_2 (i : Nat) : BufTy := match i % 128 with
  | 0 => ⟨S_, .f32⟩
  | 1 => ⟨S30000x256, .f32⟩
  | 2 => ⟨S30000x256, .f32⟩
  | 3 => ⟨S30000x128, .f32⟩
  | 4 => ⟨S_, .f32⟩
  | 5 => ⟨S128, .f32⟩
  | 6 => ⟨S_, .f32⟩
  | 7 => ⟨S128, .f32⟩
  | 8 => ⟨S128, .f32⟩
  | 9 => ⟨S_, .i32⟩
  | 10 => ⟨S_, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S30000x128, .f32⟩
  | 17 => ⟨S30000x128, .f32⟩
  | 18 => ⟨S30000x128, .f32⟩
  | 19 => ⟨S_, .f32⟩
  | 20 => ⟨S_, .f32⟩
  | 21 => ⟨S_, .f32⟩
  | 22 => ⟨S_, .f32⟩
  | 23 => ⟨S128, .f32⟩
  | 24 => ⟨S128, .f32⟩
  | 25 => ⟨S128, .f32⟩
  | 26 => ⟨S_, .f32⟩
  | 27 => ⟨S_, .i1⟩
  | 28 => ⟨S_, .f32⟩
  | 29 => ⟨S_, .f32⟩
  | 30 => ⟨S128, .f32⟩
  | 31 => ⟨S128, .f32⟩
  | 32 => ⟨S1x128, .f32⟩
  | 33 => ⟨S30000x128, .f32⟩
  | 34 => ⟨S30000x128, .f32⟩
  | 35 => ⟨S_, .f32⟩
  | 36 => ⟨S128, .f32⟩
  | 37 => ⟨S128, .f32⟩
  | 38 => ⟨S128, .f32⟩
  | 39 => ⟨S1x128, .f32⟩
  | 40 => ⟨S30000x128, .f32⟩
  | 41 => ⟨S30000x128, .f32⟩
  | 42 => ⟨S1x128, .f32⟩
  | 43 => ⟨S30000x128, .f32⟩
  | 44 => ⟨S30000x128, .f32⟩
  | 45 => ⟨S1x128, .f32⟩
  | 46 => ⟨S30000x128, .f32⟩
  | 47 => ⟨S30000x128, .f32⟩
  | 48 => ⟨S_, .f32⟩
  | 49 => ⟨S30000x128, .f32⟩
  | 50 => ⟨S30000x128, .f32⟩
  | 51 => ⟨S_, .f32⟩
  | 52 => ⟨S320000x128, .f32⟩
  | 53 => ⟨S5000x128, .f32⟩
  | 54 => ⟨S15000, .i32⟩
  | 55 => ⟨S5000x3x128, .f32⟩
  | 56 => ⟨S15000x128, .f32⟩
  | 57 => ⟨S_, .i32⟩
  | 58 => ⟨S15000, .i32⟩
  | 59 => ⟨S15000, .i1⟩
  | 60 => ⟨S_, .i32⟩
  | 61 => ⟨S15000, .i32⟩
  | 62 => ⟨S15000, .i32⟩
  | 63 => ⟨S15000, .i32⟩
  | 64 => ⟨S15000x1, .i32⟩
  | 65 => ⟨S320000x128, .f32⟩
  | 66 => ⟨S5000x128, .f32⟩
  | 67 => ⟨S20000, .i32⟩
  | 68 => ⟨S5000x4x128, .f32⟩
  | 69 => ⟨S20000x128, .f32⟩
  | 70 => ⟨S_, .i32⟩
  | 71 => ⟨S20000, .i32⟩
  | 72 => ⟨S20000, .i1⟩
  | 73 => ⟨S_, .i32⟩
  | 74 => ⟨S20000, .i32⟩
  | 75 => ⟨S20000, .i32⟩
  | 76 => ⟨S20000, .i32⟩
  | 77 => ⟨S20000x1, .i32⟩
  | 78 => ⟨S320000x128, .f32⟩
  | 79 => ⟨S5000x128, .f32⟩
  | 80 => ⟨S25000, .i32⟩
  | 81 => ⟨S5000x5x128, .f32⟩
  | 82 => ⟨S25000x128, .f32⟩
  | 83 => ⟨S_, .i32⟩
  | 84 => ⟨S25000, .i32⟩
  | 85 => ⟨S25000, .i1⟩
  | 86 => ⟨S_, .i32⟩
  | 87 => ⟨S25000, .i32⟩
  | 88 => ⟨S25000, .i32⟩
  | 89 => ⟨S25000, .i32⟩
  | 90 => ⟨S25000x1, .i32⟩
  | 91 => ⟨S320000x128, .f32⟩
  | 92 => ⟨S5000x128, .f32⟩
  | 93 => ⟨S30000, .i32⟩
  | 94 => ⟨S5000x6x128, .f32⟩
  | 95 => ⟨S30000x128, .f32⟩
  | 96 => ⟨S_, .i32⟩
  | 97 => ⟨S30000, .i32⟩
  | 98 => ⟨S30000, .i1⟩
  | 99 => ⟨S_, .i32⟩
  | 100 => ⟨S30000, .i32⟩
  | 101 => ⟨S30000, .i32⟩
  | 102 => ⟨S30000, .i32⟩
  | 103 => ⟨S30000x1, .i32⟩
  | 104 => ⟨S320000x128, .f32⟩
  | 105 => ⟨S5000x128, .f32⟩
  | 106 => ⟨S35000, .i32⟩
  | 107 => ⟨S5000x7x128, .f32⟩
  | 108 => ⟨S35000x128, .f32⟩
  | 109 => ⟨S_, .i32⟩
  | 110 => ⟨S35000, .i32⟩
  | 111 => ⟨S35000, .i1⟩
  | 112 => ⟨S_, .i32⟩
  | 113 => ⟨S35000, .i32⟩
  | 114 => ⟨S35000, .i32⟩
  | 115 => ⟨S35000, .i32⟩
  | 116 => ⟨S35000x1, .i32⟩
  | 117 => ⟨S320000x128, .f32⟩
  | 118 => ⟨S5000x128, .f32⟩
  | 119 => ⟨S40000, .i32⟩
  | 120 => ⟨S5000x8x128, .f32⟩
  | 121 => ⟨S40000x128, .f32⟩
  | 122 => ⟨S_, .i32⟩
  | 123 => ⟨S40000, .i32⟩
  | 124 => ⟨S40000, .i1⟩
  | 125 => ⟨S_, .i32⟩
  | 126 => ⟨S40000, .i32⟩
  | 127 => ⟨S40000, .i32⟩
  | _ => ⟨S320000x128, .f32⟩

abbrev hbmTy0_3 (i : Nat) : BufTy := match i % 128 with
  | 0 => ⟨S40000, .i32⟩
  | 1 => ⟨S40000x1, .i32⟩
  | 2 => ⟨S320000x128, .f32⟩
  | 3 => ⟨S320000x256, .f32⟩
  | 4 => ⟨S320000x256, .f32⟩
  | 5 => ⟨S_, .f32⟩
  | 6 => ⟨S256, .f32⟩
  | 7 => ⟨S_, .f32⟩
  | 8 => ⟨S256, .f32⟩
  | 9 => ⟨S256, .f32⟩
  | 10 => ⟨S_, .i32⟩
  | 11 => ⟨S_, .f32⟩
  | 12 => ⟨S256, .f32⟩
  | 13 => ⟨S1x256, .f32⟩
  | 14 => ⟨S_, .f32⟩
  | 15 => ⟨S1x256, .f32⟩
  | 16 => ⟨S1x256, .f32⟩
  | 17 => ⟨S320000x256, .f32⟩
  | 18 => ⟨S320000x256, .f32⟩
  | 19 => ⟨S320000x256, .f32⟩
  | 20 => ⟨S_, .f32⟩
  | 21 => ⟨S_, .f32⟩
  | 22 => ⟨S_, .f32⟩
  | 23 => ⟨S_, .f32⟩
  | 24 => ⟨S256, .f32⟩
  | 25 => ⟨S256, .f32⟩
  | 26 => ⟨S256, .f32⟩
  | 27 => ⟨S_, .f32⟩
  | 28 => ⟨S_, .i1⟩
  | 29 => ⟨S_, .f32⟩
  | 30 => ⟨S_, .f32⟩
  | 31 => ⟨S256, .f32⟩
  | 32 => ⟨S256, .f32⟩
  | 33 => ⟨S1x256, .f32⟩
  | 34 => ⟨S320000x256, .f32⟩
  | 35 => ⟨S320000x256, .f32⟩
  | 36 => ⟨S_, .f32⟩
  | 37 => ⟨S256, .f32⟩
  | 38 => ⟨S256, .f32⟩
  | 39 => ⟨S256, .f32⟩
  | 40 => ⟨S1x256, .f32⟩
  | 41 => ⟨S320000x256, .f32⟩
  | 42 => ⟨S320000x256, .f32⟩
  | 43 => ⟨S1x256, .f32⟩
  | 44 => ⟨S320000x256, .f32⟩
  | 45 => ⟨S320000x256, .f32⟩
  | 46 => ⟨S1x256, .f32⟩
  | 47 => ⟨S320000x256, .f32⟩
  | 48 => ⟨S320000x256, .f32⟩
  | 49 => ⟨S_, .f32⟩
  | 50 => ⟨S320000x256, .f32⟩
  | 51 => ⟨S320000x256, .f32⟩
  | 52 => ⟨S320000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S320000x128, .f32⟩
  | 66 => ⟨S320000x128, .f32⟩
  | 67 => ⟨S320000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S320000x128, .f32⟩
  | 83 => ⟨S320000x128, .f32⟩
  | 84 => ⟨S_, .f32⟩
  | 85 => ⟨S128, .f32⟩
  | 86 => ⟨S128, .f32⟩
  | 87 => ⟨S128, .f32⟩
  | 88 => ⟨S1x128, .f32⟩
  | 89 => ⟨S320000x128, .f32⟩
  | 90 => ⟨S320000x128, .f32⟩
  | 91 => ⟨S1x128, .f32⟩
  | 92 => ⟨S320000x128, .f32⟩
  | 93 => ⟨S320000x128, .f32⟩
  | 94 => ⟨S1x128, .f32⟩
  | 95 => ⟨S320000x128, .f32⟩
  | 96 => ⟨S320000x128, .f32⟩
  | 97 => ⟨S_, .f32⟩
  | 98 => ⟨S320000x128, .f32⟩
  | 99 => ⟨S320000x128, .f32⟩
  | _ => ⟨S320000x128, .f32⟩

abbrev hbmTy (i : Nat) : BufTy := match i / 128 with
  | 0 => hbmTy0_0 i
  | 1 => hbmTy0_1 i
  | 2 => hbmTy0_2 i
  | 3 => hbmTy0_3 i
  | _ => ⟨S320000x128, .f32⟩

abbrev bufTy : (tb : Table) → Fin (tcTables nBuf tb) → BufTy
  | .hbm, ⟨i, _⟩ => hbmTy i
  | _, _ => ⟨S320000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v0 : Ref sig .tc := ⟨.hbm, 43, rfl⟩
abbrev main_cst : Ref sig .tc := ⟨.hbm, 44, rfl⟩
abbrev main_v1 : Ref sig .tc := ⟨.hbm, 45, rfl⟩
abbrev main_call1_c : Ref sig .tc := ⟨.hbm, 46, rfl⟩
abbrev main_call1_v0 : Ref sig .tc := ⟨.hbm, 47, rfl⟩
abbrev main_call1_v1 : Ref sig .tc := ⟨.hbm, 48, rfl⟩
abbrev main_call1_c_0 : Ref sig .tc := ⟨.hbm, 49, rfl⟩
abbrev main_call1_v2 : Ref sig .tc := ⟨.hbm, 50, rfl⟩
abbrev main_call1_v3 : Ref sig .tc := ⟨.hbm, 51, rfl⟩
abbrev main_call1_v4 : Ref sig .tc := ⟨.hbm, 52, rfl⟩
abbrev main_call1_v5 : Ref sig .tc := ⟨.hbm, 53, rfl⟩
abbrev main_call1_c_1 : Ref sig .tc := ⟨.hbm, 54, rfl⟩
abbrev main_call1_c_2 : Ref sig .tc := ⟨.hbm, 55, rfl⟩
abbrev main_call1_v6 : Ref sig .tc := ⟨.hbm, 56, rfl⟩
abbrev main_call1_v7 : Ref sig .tc := ⟨.hbm, 57, rfl⟩
abbrev main_call1_v8 : Ref sig .tc := ⟨.hbm, 58, rfl⟩
abbrev main_call1_v9 : Ref sig .tc := ⟨.hbm, 59, rfl⟩
abbrev main_call1_v10 : Ref sig .tc := ⟨.hbm, 60, rfl⟩
abbrev main_call1_v11 : Ref sig .tc := ⟨.hbm, 61, rfl⟩
abbrev main_call1_c_3 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_cst : Ref sig .tc := ⟨.hbm, 66, rfl⟩
abbrev main_call1_v15 : Ref sig .tc := ⟨.hbm, 67, rfl⟩
abbrev main_v2 : Ref sig .tc := ⟨.hbm, 68, rfl⟩
abbrev main_cst_0 : Ref sig .tc := ⟨.hbm, 69, rfl⟩
abbrev main_v3 : Ref sig .tc := ⟨.hbm, 70, rfl⟩
abbrev main_call2_c : Ref sig .tc := ⟨.hbm, 71, rfl⟩
abbrev main_call2_v0 : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_v5 : Ref sig .tc := ⟨.hbm, 78, rfl⟩
abbrev main_call2_c_1 : Ref sig .tc := ⟨.hbm, 79, rfl⟩
abbrev main_call2_c_2 : Ref sig .tc := ⟨.hbm, 80, rfl⟩
abbrev main_call2_v6 : Ref sig .tc := ⟨.hbm, 81, rfl⟩
abbrev main_call2_v7 : Ref sig .tc := ⟨.hbm, 82, rfl⟩
abbrev main_call2_v8 : Ref sig .tc := ⟨.hbm, 83, rfl⟩
abbrev main_call2_v9 : Ref sig .tc := ⟨.hbm, 84, rfl⟩
abbrev main_call2_v10 : Ref sig .tc := ⟨.hbm, 85, rfl⟩
abbrev main_call2_v11 : Ref sig .tc := ⟨.hbm, 86, rfl⟩
abbrev main_call2_c_3 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_call2_cst : Ref sig .tc := ⟨.hbm, 91, rfl⟩
abbrev main_call2_v15 : Ref sig .tc := ⟨.hbm, 92, rfl⟩
abbrev main_v4 : Ref sig .tc := ⟨.hbm, 93, rfl⟩
abbrev main_cst_1 : Ref sig .tc := ⟨.hbm, 94, rfl⟩
abbrev main_v5 : Ref sig .tc := ⟨.hbm, 95, rfl⟩
abbrev main_call3_c : Ref sig .tc := ⟨.hbm, 96, rfl⟩
abbrev main_call3_v0 : Ref sig .tc := ⟨.hbm, 97, rfl⟩
abbrev main_call3_v1 : Ref sig .tc := ⟨.hbm, 98, rfl⟩
abbrev main_call3_c_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_c_1 : Ref sig .tc := ⟨.hbm, 104, rfl⟩
abbrev main_call3_c_2 : Ref sig .tc := ⟨.hbm, 105, rfl⟩
abbrev main_call3_v6 : Ref sig .tc := ⟨.hbm, 106, rfl⟩
abbrev main_call3_v7 : Ref sig .tc := ⟨.hbm, 107, rfl⟩
abbrev main_call3_v8 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_c_3 : Ref sig .tc := ⟨.hbm, 112, rfl⟩
abbrev main_call3_v12 : Ref sig .tc := ⟨.hbm, 113, rfl⟩
abbrev main_call3_v13 : Ref sig .tc := ⟨.hbm, 114, rfl⟩
abbrev main_call3_v14 : Ref sig .tc := ⟨.hbm, 115, rfl⟩
abbrev main_call3_cst : Ref sig .tc := ⟨.hbm, 116, rfl⟩
abbrev main_call3_v15 : Ref sig .tc := ⟨.hbm, 117, rfl⟩
abbrev main_v6 : Ref sig .tc := ⟨.hbm, 118, rfl⟩
abbrev main_cst_2 : Ref sig .tc := ⟨.hbm, 119, rfl⟩
abbrev main_v7 : Ref sig .tc := ⟨.hbm, 120, rfl⟩
abbrev main_call4_c : Ref sig .tc := ⟨.hbm, 121, rfl⟩
abbrev main_call4_v0 : Ref sig .tc := ⟨.hbm, 122, rfl⟩
abbrev main_call4_v1 : Ref sig .tc := ⟨.hbm, 123, rfl⟩
abbrev main_call4_c_0 : Ref sig .tc := ⟨.hbm, 124, rfl⟩
abbrev main_call4_v2 : Ref sig .tc := ⟨.hbm, 125, rfl⟩
abbrev main_call4_v3 : Ref sig .tc := ⟨.hbm, 126, rfl⟩
abbrev main_call4_v4 : Ref sig .tc := ⟨.hbm, 127, rfl⟩
abbrev main_call4_v5 : Ref sig .tc := ⟨.hbm, 128, rfl⟩
abbrev main_call4_c_1 : Ref sig .tc := ⟨.hbm, 129, rfl⟩
abbrev main_call4_c_2 : Ref sig .tc := ⟨.hbm, 130, rfl⟩
abbrev main_call4_v6 : Ref sig .tc := ⟨.hbm, 131, rfl⟩
abbrev main_call4_v7 : Ref sig .tc := ⟨.hbm, 132, rfl⟩
abbrev main_call4_v8 : Ref sig .tc := ⟨.hbm, 133, rfl⟩
abbrev main_call4_v9 : Ref sig .tc := ⟨.hbm, 134, rfl⟩
abbrev main_call4_v10 : Ref sig .tc := ⟨.hbm, 135, rfl⟩
abbrev main_call4_v11 : Ref sig .tc := ⟨.hbm, 136, rfl⟩
abbrev main_call4_c_3 : Ref sig .tc := ⟨.hbm, 137, rfl⟩
abbrev main_call4_v12 : Ref sig .tc := ⟨.hbm, 138, rfl⟩
abbrev main_call4_v13 : Ref sig .tc := ⟨.hbm, 139, rfl⟩
abbrev main_call4_v14 : Ref sig .tc := ⟨.hbm, 140, rfl⟩
abbrev main_call4_cst : Ref sig .tc := ⟨.hbm, 141, rfl⟩
abbrev main_call4_v15 : Ref sig .tc := ⟨.hbm, 142, rfl⟩
abbrev main_v8 : Ref sig .tc := ⟨.hbm, 143, rfl⟩
abbrev main_cst_3 : Ref sig .tc := ⟨.hbm, 144, rfl⟩
abbrev main_v9 : Ref sig .tc := ⟨.hbm, 145, rfl⟩
abbrev main_call5_c : Ref sig .tc := ⟨.hbm, 146, rfl⟩
abbrev main_call5_v0 : Ref sig .tc := ⟨.hbm, 147, rfl⟩
abbrev main_call5_v1 : Ref sig .tc := ⟨.hbm, 148, rfl⟩
abbrev main_call5_c_0 : Ref sig .tc := ⟨.hbm, 149, rfl⟩
abbrev main_call5_v2 : Ref sig .tc := ⟨.hbm, 150, rfl⟩
abbrev main_call5_v3 : Ref sig .tc := ⟨.hbm, 151, rfl⟩
abbrev main_call5_v4 : Ref sig .tc := ⟨.hbm, 152, rfl⟩
abbrev main_call5_v5 : Ref sig .tc := ⟨.hbm, 153, rfl⟩
abbrev main_call5_c_1 : Ref sig .tc := ⟨.hbm, 154, rfl⟩
abbrev main_call5_c_2 : Ref sig .tc := ⟨.hbm, 155, rfl⟩
abbrev main_call5_v6 : Ref sig .tc := ⟨.hbm, 156, rfl⟩
abbrev main_call5_v7 : Ref sig .tc := ⟨.hbm, 157, rfl⟩
abbrev main_call5_v8 : Ref sig .tc := ⟨.hbm, 158, rfl⟩
abbrev main_call5_v9 : Ref sig .tc := ⟨.hbm, 159, rfl⟩
abbrev main_call5_v10 : Ref sig .tc := ⟨.hbm, 160, rfl⟩
abbrev main_call5_v11 : Ref sig .tc := ⟨.hbm, 161, rfl⟩
abbrev main_call5_c_3 : Ref sig .tc := ⟨.hbm, 162, rfl⟩
abbrev main_call5_v12 : Ref sig .tc := ⟨.hbm, 163, rfl⟩
abbrev main_call5_v13 : Ref sig .tc := ⟨.hbm, 164, rfl⟩
abbrev main_call5_v14 : Ref sig .tc := ⟨.hbm, 165, rfl⟩
abbrev main_call5_cst : Ref sig .tc := ⟨.hbm, 166, rfl⟩
abbrev main_call5_v15 : Ref sig .tc := ⟨.hbm, 167, rfl⟩
abbrev main_v10 : Ref sig .tc := ⟨.hbm, 168, rfl⟩
abbrev main_cst_4 : Ref sig .tc := ⟨.hbm, 169, rfl⟩
abbrev main_v11 : Ref sig .tc := ⟨.hbm, 170, rfl⟩
abbrev main_v12 : Ref sig .tc := ⟨.hbm, 171, rfl⟩
abbrev main_v13 : Ref sig .tc := ⟨.hbm, 172, rfl⟩
abbrev main_v14 : Ref sig .tc := ⟨.hbm, 173, rfl⟩
abbrev main_v15 : Ref sig .tc := ⟨.hbm, 174, rfl⟩
abbrev main_v16 : Ref sig .tc := ⟨.hbm, 175, rfl⟩
abbrev main_v17 : Ref sig .tc := ⟨.hbm, 176, rfl⟩
abbrev main_v18 : Ref sig .tc := ⟨.hbm, 177, rfl⟩
abbrev main_v19 : Ref sig .tc := ⟨.hbm, 178, rfl⟩
abbrev main_v20 : Ref sig .tc := ⟨.hbm, 179, rfl⟩
abbrev main_v21 : Ref sig .tc := ⟨.hbm, 180, rfl⟩
abbrev main_v22 : Ref sig .tc := ⟨.hbm, 181, rfl⟩
abbrev main_v23 : Ref sig .tc := ⟨.hbm, 182, rfl⟩
abbrev main_v24 : Ref sig .tc := ⟨.hbm, 183, rfl⟩
abbrev main_v25 : Ref sig .tc := ⟨.hbm, 184, rfl⟩
abbrev main_v26 : Ref sig .tc := ⟨.hbm, 185, rfl⟩
abbrev main_v27 : Ref sig .tc := ⟨.hbm, 186, rfl⟩
abbrev main_v28 : Ref sig .tc := ⟨.hbm, 187, rfl⟩
abbrev main_v29 : Ref sig .tc := ⟨.hbm, 188, rfl⟩
abbrev main_v30 : Ref sig .tc := ⟨.hbm, 189, rfl⟩
abbrev main_v31 : Ref sig .tc := ⟨.hbm, 190, rfl⟩
abbrev main_v32 : Ref sig .tc := ⟨.hbm, 191, rfl⟩
abbrev main_v33 : Ref sig .tc := ⟨.hbm, 192, rfl⟩
abbrev main_v34 : Ref sig .tc := ⟨.hbm, 193, rfl⟩
abbrev main_v35 : Ref sig .tc := ⟨.hbm, 194, rfl⟩
abbrev main_v36 : Ref sig .tc := ⟨.hbm, 195, rfl⟩
abbrev main_v37 : Ref sig .tc := ⟨.hbm, 196, rfl⟩
abbrev main_v38 : Ref sig .tc := ⟨.hbm, 197, rfl⟩
abbrev main_v39 : Ref sig .tc := ⟨.hbm, 198, rfl⟩
abbrev main_v40 : Ref sig .tc := ⟨.hbm, 199, rfl⟩
abbrev main_v41 : Ref sig .tc := ⟨.hbm, 200, rfl⟩
abbrev main_v42 : Ref sig .tc := ⟨.hbm, 201, rfl⟩
abbrev main_v43 : Ref sig .tc := ⟨.hbm, 202, rfl⟩
abbrev main_v44 : Ref sig .tc := ⟨.hbm, 203, rfl⟩
abbrev main_v45 : Ref sig .tc := ⟨.hbm, 204, rfl⟩
abbrev main_v46 : Ref sig .tc := ⟨.hbm, 205, rfl⟩
abbrev main_v47 : Ref sig .tc := ⟨.hbm, 206, rfl⟩
abbrev main_v48 : Ref sig .tc := ⟨.hbm, 207, rfl⟩
abbrev main_v49 : Ref sig .tc := ⟨.hbm, 208, rfl⟩
abbrev main_v50 : Ref sig .tc := ⟨.hbm, 209, rfl⟩
abbrev main_v51 : Ref sig .tc := ⟨.hbm, 210, rfl⟩
abbrev main_v52 : Ref sig .tc := ⟨.hbm, 211, rfl⟩
abbrev main_cst_5 : Ref sig .tc := ⟨.hbm, 212, rfl⟩
abbrev main_v53 : Ref sig .tc := ⟨.hbm, 213, rfl⟩
abbrev main_cst_6 : Ref sig .tc := ⟨.hbm, 214, rfl⟩
abbrev main_v54 : Ref sig .tc := ⟨.hbm, 215, rfl⟩
abbrev main_v55 : Ref sig .tc := ⟨.hbm, 216, rfl⟩
abbrev main_c : Ref sig .tc := ⟨.hbm, 217, rfl⟩
abbrev main_call6_cst : Ref sig .tc := ⟨.hbm, 218, rfl⟩
abbrev main_call6_v0 : Ref sig .tc := ⟨.hbm, 219, rfl⟩
abbrev main_call6_v1 : Ref sig .tc := ⟨.hbm, 220, rfl⟩
abbrev main_call6_cst_0 : Ref sig .tc := ⟨.hbm, 221, rfl⟩
abbrev main_call6_v2 : Ref sig .tc := ⟨.hbm, 222, rfl⟩
abbrev main_call6_v3 : Ref sig .tc := ⟨.hbm, 223, rfl⟩
abbrev main_call6_v4 : Ref sig .tc := ⟨.hbm, 224, rfl⟩
abbrev main_call6_v5 : Ref sig .tc := ⟨.hbm, 225, rfl⟩
abbrev main_call6_v6 : Ref sig .tc := ⟨.hbm, 226, rfl⟩
abbrev main_call6_v7 : Ref sig .tc := ⟨.hbm, 227, rfl⟩
abbrev main_call6_cst_1 : Ref sig .tc := ⟨.hbm, 228, rfl⟩
abbrev main_call6_v8 : Ref sig .tc := ⟨.hbm, 229, rfl⟩
abbrev main_call6_cst_2 : Ref sig .tc := ⟨.hbm, 230, rfl⟩
abbrev main_call6_v9 : Ref sig .tc := ⟨.hbm, 231, rfl⟩
abbrev main_call6_v10 : Ref sig .tc := ⟨.hbm, 232, rfl⟩
abbrev main_call6_v11 : Ref sig .tc := ⟨.hbm, 233, rfl⟩
abbrev main_call6_cst_3 : Ref sig .tc := ⟨.hbm, 234, rfl⟩
abbrev main_call6_v12 : Ref sig .tc := ⟨.hbm, 235, rfl⟩
abbrev main_call6_cst_4 : Ref sig .tc := ⟨.hbm, 236, rfl⟩
abbrev main_call6_call0_v0 : Ref sig .tc := ⟨.hbm, 237, rfl⟩
abbrev main_call6_call0_v1 : Ref sig .tc := ⟨.hbm, 238, rfl⟩
abbrev main_v56 : Ref sig .tc := ⟨.hbm, 239, rfl⟩
abbrev main_v57 : Ref sig .tc := ⟨.hbm, 240, rfl⟩
abbrev main_v58 : Ref sig .tc := ⟨.hbm, 241, rfl⟩
abbrev main_v59 : Ref sig .tc := ⟨.hbm, 242, rfl⟩
abbrev main_cst_7 : Ref sig .tc := ⟨.hbm, 243, rfl⟩
abbrev main_v60 : Ref sig .tc := ⟨.hbm, 244, rfl⟩
abbrev main_v61 : Ref sig .tc := ⟨.hbm, 245, rfl⟩
abbrev main_v62 : Ref sig .tc := ⟨.hbm, 246, rfl⟩
abbrev main_v63 : Ref sig .tc := ⟨.hbm, 247, rfl⟩
abbrev main_v64 : Ref sig .tc := ⟨.hbm, 248, rfl⟩
abbrev main_v65 : Ref sig .tc := ⟨.hbm, 249, rfl⟩
abbrev main_v66 : Ref sig .tc := ⟨.hbm, 250, rfl⟩
abbrev main_v67 : Ref sig .tc := ⟨.hbm, 251, rfl⟩
abbrev main_v68 : Ref sig .tc := ⟨.hbm, 252, rfl⟩
abbrev main_v69 : Ref sig .tc := ⟨.hbm, 253, rfl⟩
abbrev main_v70 : Ref sig .tc := ⟨.hbm, 254, rfl⟩
abbrev main_v71 : Ref sig .tc := ⟨.hbm, 255, rfl⟩
abbrev main_call7_cst : Ref sig .tc := ⟨.hbm, 256, rfl⟩
abbrev main_call7_v0 : Ref sig .tc := ⟨.hbm, 257, rfl⟩
abbrev main_v72 : Ref sig .tc := ⟨.hbm, 258, rfl⟩
abbrev main_v73 : Ref sig .tc := ⟨.hbm, 259, rfl⟩
abbrev main_cst_8 : Ref sig .tc := ⟨.hbm, 260, rfl⟩
abbrev main_v74 : Ref sig .tc := ⟨.hbm, 261, rfl⟩
abbrev main_cst_9 : Ref sig .tc := ⟨.hbm, 262, rfl⟩
abbrev main_v75 : Ref sig .tc := ⟨.hbm, 263, rfl⟩
abbrev main_v76 : Ref sig .tc := ⟨.hbm, 264, rfl⟩
abbrev main_c_10 : Ref sig .tc := ⟨.hbm, 265, rfl⟩
abbrev main_call8_cst : Ref sig .tc := ⟨.hbm, 266, rfl⟩
abbrev main_call8_v0 : Ref sig .tc := ⟨.hbm, 267, rfl⟩
abbrev main_call8_v1 : Ref sig .tc := ⟨.hbm, 268, rfl⟩
abbrev main_call8_cst_0 : Ref sig .tc := ⟨.hbm, 269, rfl⟩
abbrev main_call8_v2 : Ref sig .tc := ⟨.hbm, 270, rfl⟩
abbrev main_call8_v3 : Ref sig .tc := ⟨.hbm, 271, rfl⟩
abbrev main_call8_v4 : Ref sig .tc := ⟨.hbm, 272, rfl⟩
abbrev main_call8_v5 : Ref sig .tc := ⟨.hbm, 273, rfl⟩
abbrev main_call8_v6 : Ref sig .tc := ⟨.hbm, 274, rfl⟩
abbrev main_call8_v7 : Ref sig .tc := ⟨.hbm, 275, rfl⟩
abbrev main_call8_cst_1 : Ref sig .tc := ⟨.hbm, 276, rfl⟩
abbrev main_call8_v8 : Ref sig .tc := ⟨.hbm, 277, rfl⟩
abbrev main_call8_cst_2 : Ref sig .tc := ⟨.hbm, 278, rfl⟩
abbrev main_call8_v9 : Ref sig .tc := ⟨.hbm, 279, rfl⟩
abbrev main_call8_v10 : Ref sig .tc := ⟨.hbm, 280, rfl⟩
abbrev main_call8_v11 : Ref sig .tc := ⟨.hbm, 281, rfl⟩
abbrev main_call8_cst_3 : Ref sig .tc := ⟨.hbm, 282, rfl⟩
abbrev main_call8_v12 : Ref sig .tc := ⟨.hbm, 283, rfl⟩
abbrev main_call8_cst_4 : Ref sig .tc := ⟨.hbm, 284, rfl⟩
abbrev main_call8_call0_v0 : Ref sig .tc := ⟨.hbm, 285, rfl⟩
abbrev main_call8_call0_v1 : Ref sig .tc := ⟨.hbm, 286, rfl⟩
abbrev main_v77 : Ref sig .tc := ⟨.hbm, 287, rfl⟩
abbrev main_v78 : Ref sig .tc := ⟨.hbm, 288, rfl⟩
abbrev main_v79 : Ref sig .tc := ⟨.hbm, 289, rfl⟩
abbrev main_v80 : Ref sig .tc := ⟨.hbm, 290, rfl⟩
abbrev main_cst_11 : Ref sig .tc := ⟨.hbm, 291, rfl⟩
abbrev main_v81 : Ref sig .tc := ⟨.hbm, 292, rfl⟩
abbrev main_v82 : Ref sig .tc := ⟨.hbm, 293, rfl⟩
abbrev main_v83 : Ref sig .tc := ⟨.hbm, 294, rfl⟩
abbrev main_v84 : Ref sig .tc := ⟨.hbm, 295, rfl⟩
abbrev main_v85 : Ref sig .tc := ⟨.hbm, 296, rfl⟩
abbrev main_v86 : Ref sig .tc := ⟨.hbm, 297, rfl⟩
abbrev main_v87 : Ref sig .tc := ⟨.hbm, 298, rfl⟩
abbrev main_v88 : Ref sig .tc := ⟨.hbm, 299, rfl⟩
abbrev main_v89 : Ref sig .tc := ⟨.hbm, 300, rfl⟩
abbrev main_v90 : Ref sig .tc := ⟨.hbm, 301, rfl⟩
abbrev main_v91 : Ref sig .tc := ⟨.hbm, 302, rfl⟩
abbrev main_v92 : Ref sig .tc := ⟨.hbm, 303, rfl⟩
abbrev main_call9_cst : Ref sig .tc := ⟨.hbm, 304, rfl⟩
abbrev main_call9_v0 : Ref sig .tc := ⟨.hbm, 305, rfl⟩
abbrev main_v93 : Ref sig .tc := ⟨.hbm, 306, rfl⟩
abbrev main_cst_12 : Ref sig .tc := ⟨.hbm, 307, rfl⟩
abbrev main_v94 : Ref sig .tc := ⟨.hbm, 308, rfl⟩
abbrev main_v95 : Ref sig .tc := ⟨.hbm, 309, rfl⟩
abbrev main_v96 : Ref sig .tc := ⟨.hbm, 310, rfl⟩
abbrev main_v97 : Ref sig .tc := ⟨.hbm, 311, rfl⟩
abbrev main_v98 : Ref sig .tc := ⟨.hbm, 312, rfl⟩
abbrev main_c_13 : Ref sig .tc := ⟨.hbm, 313, rfl⟩
abbrev main_v99 : Ref sig .tc := ⟨.hbm, 314, rfl⟩
abbrev main_v100 : Ref sig .tc := ⟨.hbm, 315, rfl⟩
abbrev main_c_14 : Ref sig .tc := ⟨.hbm, 316, rfl⟩
abbrev main_v101 : Ref sig .tc := ⟨.hbm, 317, rfl⟩
abbrev main_v102 : Ref sig .tc := ⟨.hbm, 318, rfl⟩
abbrev main_v103 : Ref sig .tc := ⟨.hbm, 319, rfl⟩
abbrev main_v104 : Ref sig .tc := ⟨.hbm, 320, rfl⟩
abbrev main_v105 : Ref sig .tc := ⟨.hbm, 321, rfl⟩
abbrev main_v106 : Ref sig .tc := ⟨.hbm, 322, rfl⟩
abbrev main_v107 : Ref sig .tc := ⟨.hbm, 323, rfl⟩
abbrev main_v108 : Ref sig .tc := ⟨.hbm, 324, rfl⟩
abbrev main_v109 : Ref sig .tc := ⟨.hbm, 325, rfl⟩
abbrev main_c_15 : Ref sig .tc := ⟨.hbm, 326, rfl⟩
abbrev main_v110 : Ref sig .tc := ⟨.hbm, 327, rfl⟩
abbrev main_v111 : Ref sig .tc := ⟨.hbm, 328, rfl⟩
abbrev main_c_16 : Ref sig .tc := ⟨.hbm, 329, rfl⟩
abbrev main_v112 : Ref sig .tc := ⟨.hbm, 330, rfl⟩
abbrev main_v113 : Ref sig .tc := ⟨.hbm, 331, rfl⟩
abbrev main_v114 : Ref sig .tc := ⟨.hbm, 332, rfl⟩
abbrev main_v115 : Ref sig .tc := ⟨.hbm, 333, rfl⟩
abbrev main_v116 : Ref sig .tc := ⟨.hbm, 334, rfl⟩
abbrev main_v117 : Ref sig .tc := ⟨.hbm, 335, rfl⟩
abbrev main_v118 : Ref sig .tc := ⟨.hbm, 336, rfl⟩
abbrev main_v119 : Ref sig .tc := ⟨.hbm, 337, rfl⟩
abbrev main_v120 : Ref sig .tc := ⟨.hbm, 338, rfl⟩
abbrev main_c_17 : Ref sig .tc := ⟨.hbm, 339, rfl⟩
abbrev main_v121 : Ref sig .tc := ⟨.hbm, 340, rfl⟩
abbrev main_v122 : Ref sig .tc := ⟨.hbm, 341, rfl⟩
abbrev main_c_18 : Ref sig .tc := ⟨.hbm, 342, rfl⟩
abbrev main_v123 : Ref sig .tc := ⟨.hbm, 343, rfl⟩
abbrev main_v124 : Ref sig .tc := ⟨.hbm, 344, rfl⟩
abbrev main_v125 : Ref sig .tc := ⟨.hbm, 345, rfl⟩
abbrev main_v126 : Ref sig .tc := ⟨.hbm, 346, rfl⟩
abbrev main_v127 : Ref sig .tc := ⟨.hbm, 347, rfl⟩
abbrev main_v128 : Ref sig .tc := ⟨.hbm, 348, rfl⟩
abbrev main_v129 : Ref sig .tc := ⟨.hbm, 349, rfl⟩
abbrev main_v130 : Ref sig .tc := ⟨.hbm, 350, rfl⟩
abbrev main_v131 : Ref sig .tc := ⟨.hbm, 351, rfl⟩
abbrev main_c_19 : Ref sig .tc := ⟨.hbm, 352, rfl⟩
abbrev main_v132 : Ref sig .tc := ⟨.hbm, 353, rfl⟩
abbrev main_v133 : Ref sig .tc := ⟨.hbm, 354, rfl⟩
abbrev main_c_20 : Ref sig .tc := ⟨.hbm, 355, rfl⟩
abbrev main_v134 : Ref sig .tc := ⟨.hbm, 356, rfl⟩
abbrev main_v135 : Ref sig .tc := ⟨.hbm, 357, rfl⟩
abbrev main_v136 : Ref sig .tc := ⟨.hbm, 358, rfl⟩
abbrev main_v137 : Ref sig .tc := ⟨.hbm, 359, rfl⟩
abbrev main_v138 : Ref sig .tc := ⟨.hbm, 360, rfl⟩
abbrev main_v139 : Ref sig .tc := ⟨.hbm, 361, rfl⟩
abbrev main_v140 : Ref sig .tc := ⟨.hbm, 362, rfl⟩
abbrev main_v141 : Ref sig .tc := ⟨.hbm, 363, rfl⟩
abbrev main_v142 : Ref sig .tc := ⟨.hbm, 364, rfl⟩
abbrev main_c_21 : Ref sig .tc := ⟨.hbm, 365, rfl⟩
abbrev main_v143 : Ref sig .tc := ⟨.hbm, 366, rfl⟩
abbrev main_v144 : Ref sig .tc := ⟨.hbm, 367, rfl⟩
abbrev main_c_22 : Ref sig .tc := ⟨.hbm, 368, rfl⟩
abbrev main_v145 : Ref sig .tc := ⟨.hbm, 369, rfl⟩
abbrev main_v146 : Ref sig .tc := ⟨.hbm, 370, rfl⟩
abbrev main_v147 : Ref sig .tc := ⟨.hbm, 371, rfl⟩
abbrev main_v148 : Ref sig .tc := ⟨.hbm, 372, rfl⟩
abbrev main_v149 : Ref sig .tc := ⟨.hbm, 373, rfl⟩
abbrev main_v150 : Ref sig .tc := ⟨.hbm, 374, rfl⟩
abbrev main_v151 : Ref sig .tc := ⟨.hbm, 375, rfl⟩
abbrev main_v152 : Ref sig .tc := ⟨.hbm, 376, rfl⟩
abbrev main_v153 : Ref sig .tc := ⟨.hbm, 377, rfl⟩
abbrev main_c_23 : Ref sig .tc := ⟨.hbm, 378, rfl⟩
abbrev main_v154 : Ref sig .tc := ⟨.hbm, 379, rfl⟩
abbrev main_v155 : Ref sig .tc := ⟨.hbm, 380, rfl⟩
abbrev main_c_24 : Ref sig .tc := ⟨.hbm, 381, rfl⟩
abbrev main_v156 : Ref sig .tc := ⟨.hbm, 382, rfl⟩
abbrev main_v157 : Ref sig .tc := ⟨.hbm, 383, rfl⟩
abbrev main_v158 : Ref sig .tc := ⟨.hbm, 384, rfl⟩
abbrev main_v159 : Ref sig .tc := ⟨.hbm, 385, rfl⟩
abbrev main_v160 : Ref sig .tc := ⟨.hbm, 386, rfl⟩
abbrev main_v161 : Ref sig .tc := ⟨.hbm, 387, rfl⟩
abbrev main_v162 : Ref sig .tc := ⟨.hbm, 388, rfl⟩
abbrev main_cst_25 : Ref sig .tc := ⟨.hbm, 389, rfl⟩
abbrev main_v163 : Ref sig .tc := ⟨.hbm, 390, rfl⟩
abbrev main_cst_26 : Ref sig .tc := ⟨.hbm, 391, rfl⟩
abbrev main_v164 : Ref sig .tc := ⟨.hbm, 392, rfl⟩
abbrev main_v165 : Ref sig .tc := ⟨.hbm, 393, rfl⟩
abbrev main_c_27 : Ref sig .tc := ⟨.hbm, 394, rfl⟩
abbrev main_call10_cst : Ref sig .tc := ⟨.hbm, 395, rfl⟩
abbrev main_call10_v0 : Ref sig .tc := ⟨.hbm, 396, rfl⟩
abbrev main_call10_v1 : Ref sig .tc := ⟨.hbm, 397, rfl⟩
abbrev main_call10_cst_0 : Ref sig .tc := ⟨.hbm, 398, rfl⟩
abbrev main_call10_v2 : Ref sig .tc := ⟨.hbm, 399, rfl⟩
abbrev main_call10_v3 : Ref sig .tc := ⟨.hbm, 400, rfl⟩
abbrev main_call10_v4 : Ref sig .tc := ⟨.hbm, 401, rfl⟩
abbrev main_call10_v5 : Ref sig .tc := ⟨.hbm, 402, rfl⟩
abbrev main_call10_v6 : Ref sig .tc := ⟨.hbm, 403, rfl⟩
abbrev main_call10_v7 : Ref sig .tc := ⟨.hbm, 404, rfl⟩
abbrev main_call10_cst_1 : Ref sig .tc := ⟨.hbm, 405, rfl⟩
abbrev main_call10_v8 : Ref sig .tc := ⟨.hbm, 406, rfl⟩
abbrev main_call10_cst_2 : Ref sig .tc := ⟨.hbm, 407, rfl⟩
abbrev main_call10_v9 : Ref sig .tc := ⟨.hbm, 408, rfl⟩
abbrev main_call10_v10 : Ref sig .tc := ⟨.hbm, 409, rfl⟩
abbrev main_call10_v11 : Ref sig .tc := ⟨.hbm, 410, rfl⟩
abbrev main_call10_cst_3 : Ref sig .tc := ⟨.hbm, 411, rfl⟩
abbrev main_call10_v12 : Ref sig .tc := ⟨.hbm, 412, rfl⟩
abbrev main_call10_cst_4 : Ref sig .tc := ⟨.hbm, 413, rfl⟩
abbrev main_call10_call0_v0 : Ref sig .tc := ⟨.hbm, 414, rfl⟩
abbrev main_call10_call0_v1 : Ref sig .tc := ⟨.hbm, 415, rfl⟩
abbrev main_v166 : Ref sig .tc := ⟨.hbm, 416, rfl⟩
abbrev main_v167 : Ref sig .tc := ⟨.hbm, 417, rfl⟩
abbrev main_v168 : Ref sig .tc := ⟨.hbm, 418, rfl⟩
abbrev main_v169 : Ref sig .tc := ⟨.hbm, 419, rfl⟩
abbrev main_cst_28 : Ref sig .tc := ⟨.hbm, 420, rfl⟩
abbrev main_v170 : Ref sig .tc := ⟨.hbm, 421, rfl⟩
abbrev main_v171 : Ref sig .tc := ⟨.hbm, 422, rfl⟩
abbrev main_v172 : Ref sig .tc := ⟨.hbm, 423, rfl⟩
abbrev main_v173 : Ref sig .tc := ⟨.hbm, 424, rfl⟩
abbrev main_v174 : Ref sig .tc := ⟨.hbm, 425, rfl⟩
abbrev main_v175 : Ref sig .tc := ⟨.hbm, 426, rfl⟩
abbrev main_v176 : Ref sig .tc := ⟨.hbm, 427, rfl⟩
abbrev main_v177 : Ref sig .tc := ⟨.hbm, 428, rfl⟩
abbrev main_v178 : Ref sig .tc := ⟨.hbm, 429, rfl⟩
abbrev main_v179 : Ref sig .tc := ⟨.hbm, 430, rfl⟩
abbrev main_v180 : Ref sig .tc := ⟨.hbm, 431, rfl⟩
abbrev main_v181 : Ref sig .tc := ⟨.hbm, 432, rfl⟩
abbrev main_call11_cst : Ref sig .tc := ⟨.hbm, 433, rfl⟩
abbrev main_call11_v0 : Ref sig .tc := ⟨.hbm, 434, rfl⟩
abbrev main_v182 : Ref sig .tc := ⟨.hbm, 435, rfl⟩
abbrev main_v183 : Ref sig .tc := ⟨.hbm, 436, rfl⟩
abbrev main_cst_29 : Ref sig .tc := ⟨.hbm, 437, rfl⟩
abbrev main_v184 : Ref sig .tc := ⟨.hbm, 438, rfl⟩
abbrev main_cst_30 : Ref sig .tc := ⟨.hbm, 439, rfl⟩
abbrev main_v185 : Ref sig .tc := ⟨.hbm, 440, rfl⟩
abbrev main_v186 : Ref sig .tc := ⟨.hbm, 441, rfl⟩
abbrev main_c_31 : Ref sig .tc := ⟨.hbm, 442, rfl⟩
abbrev main_call12_cst : Ref sig .tc := ⟨.hbm, 443, rfl⟩
abbrev main_call12_v0 : Ref sig .tc := ⟨.hbm, 444, rfl⟩
abbrev main_call12_v1 : Ref sig .tc := ⟨.hbm, 445, rfl⟩
abbrev main_call12_cst_0 : Ref sig .tc := ⟨.hbm, 446, rfl⟩
abbrev main_call12_v2 : Ref sig .tc := ⟨.hbm, 447, rfl⟩
abbrev main_call12_v3 : Ref sig .tc := ⟨.hbm, 448, rfl⟩
abbrev main_call12_v4 : Ref sig .tc := ⟨.hbm, 449, rfl⟩
abbrev main_call12_v5 : Ref sig .tc := ⟨.hbm, 450, rfl⟩
abbrev main_call12_v6 : Ref sig .tc := ⟨.hbm, 451, rfl⟩
abbrev main_call12_v7 : Ref sig .tc := ⟨.hbm, 452, rfl⟩
abbrev main_call12_cst_1 : Ref sig .tc := ⟨.hbm, 453, rfl⟩
abbrev main_call12_v8 : Ref sig .tc := ⟨.hbm, 454, rfl⟩
abbrev main_call12_cst_2 : Ref sig .tc := ⟨.hbm, 455, rfl⟩
abbrev main_call12_v9 : Ref sig .tc := ⟨.hbm, 456, rfl⟩
abbrev main_call12_v10 : Ref sig .tc := ⟨.hbm, 457, rfl⟩
abbrev main_call12_v11 : Ref sig .tc := ⟨.hbm, 458, rfl⟩
abbrev main_call12_cst_3 : Ref sig .tc := ⟨.hbm, 459, rfl⟩
abbrev main_call12_v12 : Ref sig .tc := ⟨.hbm, 460, rfl⟩
abbrev main_call12_cst_4 : Ref sig .tc := ⟨.hbm, 461, rfl⟩
abbrev main_call12_call0_v0 : Ref sig .tc := ⟨.hbm, 462, rfl⟩
abbrev main_call12_call0_v1 : Ref sig .tc := ⟨.hbm, 463, rfl⟩
abbrev main_v187 : Ref sig .tc := ⟨.hbm, 464, rfl⟩
abbrev main_v188 : Ref sig .tc := ⟨.hbm, 465, rfl⟩
abbrev main_v189 : Ref sig .tc := ⟨.hbm, 466, rfl⟩
abbrev main_v190 : Ref sig .tc := ⟨.hbm, 467, rfl⟩
abbrev main_cst_32 : Ref sig .tc := ⟨.hbm, 468, rfl⟩
abbrev main_v191 : Ref sig .tc := ⟨.hbm, 469, rfl⟩
abbrev main_v192 : Ref sig .tc := ⟨.hbm, 470, rfl⟩
abbrev main_v193 : Ref sig .tc := ⟨.hbm, 471, rfl⟩
abbrev main_v194 : Ref sig .tc := ⟨.hbm, 472, rfl⟩
abbrev main_v195 : Ref sig .tc := ⟨.hbm, 473, rfl⟩
abbrev main_v196 : Ref sig .tc := ⟨.hbm, 474, rfl⟩
abbrev main_v197 : Ref sig .tc := ⟨.hbm, 475, rfl⟩
abbrev main_v198 : Ref sig .tc := ⟨.hbm, 476, rfl⟩
abbrev main_v199 : Ref sig .tc := ⟨.hbm, 477, rfl⟩
abbrev main_v200 : Ref sig .tc := ⟨.hbm, 478, rfl⟩
abbrev main_v201 : Ref sig .tc := ⟨.hbm, 479, rfl⟩
abbrev main_v202 : Ref sig .tc := ⟨.hbm, 480, rfl⟩
abbrev main_call13_cst : Ref sig .tc := ⟨.hbm, 481, rfl⟩
abbrev main_call13_v0 : Ref sig .tc := ⟨.hbm, 482, rfl⟩
abbrev main_v203 : Ref sig .tc := ⟨.hbm, 483, rfl⟩

abbrev nD : Nat := 1
abbrev τ : Topo := Topo.v7x

variable {F : FTy → Type} [FloatOps F]
-- ==== Proof.Algebra.lean ====
/-
  The arithmetic of the claim over the extended reals, with no program in sight.

  `refNorm` is the reference's batch normalisation of one column (subtract the mean, divide by the root of the mean
  squared deviation plus epsilon, scale, shift); `kerNorm` is the kernel's (mean of squares minus squared mean, one
  multiplication and one addition per element). They agree on a column of reals, and on a column with an infinity in it
  both are the shift alone, whatever the column. So they agree even on two columns that differ, as long as the entries
  are pairwise equal or both infinite (`Alike`), and that is what exchanging the order of the two contractions gives.
-/
module

public import Idealize.ShloMosaic.PureOps.Ideal.Laws

@[expose] public section

noncomputable section

namespace Cert.Algebra

open Idealize.ShloMosaic

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem not_isReal_iff {x : EReal} : ¬ IsReal x ↔ x = ⊥ ∨ x = ⊤ := by
  induction x using EReal.rec with
  | bot => simp [IsReal]
  | top => simp [IsReal]
  | coe r => simp [IsReal]

theorem IsReal.add {x y : EReal} (hx : IsReal x) (hy : IsReal y) : IsReal (x + y) := by
  obtain ⟨a, rfl⟩ := hx; obtain ⟨b, rfl⟩ := hy; exact ⟨a + b, by push_cast; rfl⟩

theorem IsReal.mul {x y : EReal} (hx : IsReal x) (hy : IsReal y) : IsReal (x * y) := by
  obtain ⟨a, rfl⟩ := hx; obtain ⟨b, rfl⟩ := hy; exact ⟨a * b, by push_cast; rfl⟩

theorem isReal_sum {ι : Type*} (s : Finset ι) (f : ι → EReal) (h : ∀ i ∈ s, IsReal (f i)) : IsReal (∑ i ∈ s, f i) := by
  classical
  induction s using Finset.induction_on with
  | empty => simpa using isReal_zero
  | insert i s hi ih =>
    rw [Finset.sum_insert hi]
    exact (h i (Finset.mem_insert_self i s)).add (ih fun j hj => h j (Finset.mem_insert_of_mem hj))

/-- The sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- A sum with an infinite term is infinite. -/
theorem add_not_isReal_left {x y : EReal} (hx : ¬ IsReal x) : ¬ IsReal (x + y) := by
  rw [not_isReal_iff] at hx ⊢
  rcases hx with rfl | rfl
  · simp
  · induction y using EReal.rec <;> simp

theorem add_not_isReal_right {x y : EReal} (hy : ¬ IsReal y) : ¬ IsReal (x + y) := by
  rw [add_comm]; exact add_not_isReal_left hy

theorem sum_not_isReal {ι : Type*} (s : Finset ι) (f : ι → EReal) (i : ι) (hi : i ∈ s) (h : ¬ IsReal (f i)) :
    ¬ IsReal (∑ i ∈ s, f i) := by
  classical
  rw [← Finset.add_sum_erase s f hi]; exact add_not_isReal_left h

/-- A nonzero real times an infinity is infinite. -/
theorem mul_not_isReal {x y : EReal} (hx : IsReal x) (h0 : x ≠ 0) (hy : ¬ IsReal y) : ¬ IsReal (x * y) := by
  obtain ⟨a, rfl⟩ := hx
  have ha : a ≠ 0 := by simpa using h0
  rw [not_isReal_iff] at hy ⊢
  rcases lt_or_gt_of_ne ha with ha | ha
  · rcases hy with rfl | rfl
    · right; exact EReal.coe_mul_bot_of_neg ha
    · left; exact EReal.coe_mul_top_of_neg ha
  · rcases hy with rfl | rfl
    · left; exact EReal.coe_mul_bot_of_pos ha
    · right; exact EReal.coe_mul_top_of_pos ha

/-- Equal, or both infinite. -/
def Alike (x y : EReal) : Prop := x = y ∨ (¬ IsReal x ∧ ¬ IsReal y)

theorem Alike.rfl' {x : EReal} : Alike x x := Or.inl rfl

theorem Alike.add_left {x y : EReal} (u : EReal) (h : Alike x y) : Alike (u + x) (u + y) := by
  rcases h with h | ⟨hx, hy⟩
  · exact Or.inl (by rw [h])
  · exact Or.inr ⟨add_not_isReal_right hx, add_not_isReal_right hy⟩

theorem Alike.zero_add {x y : EReal} (h : Alike x y) : Alike (0 + x) y := by rwa [_root_.zero_add]

/-! ## Two contractions in either order -/

/-- The reference contracts a row `p` of reals with each matrix and then with the weights `B`; the kernel contracts the
    matrices with the weights first. Where every infinite matrix entry meets a zero the two are equal, and where one
    does not both are infinite. -/
theorem contract_alike {ι κ : Type*} [Fintype ι] [Fintype κ] (p : κ → EReal) (B : ι → EReal) (a : κ → ι → EReal)
    (hp : ∀ k, IsReal (p k)) (hB : ∀ j, IsReal (B j)) :
    Alike (∑ j, (∑ k, p k * a k j) * B j) (∑ k, p k * ∑ j, a k j * B j) := by
  classical
  by_cases h : ∀ k j, p k ≠ 0 → B j ≠ 0 → IsReal (a k j)
  · left
    choose pr hpr using hp
    choose br hbr using hB
    -- the same matrix with its infinities, all of which meet a zero, put to zero
    let ar : κ → ι → ℝ := fun k j => (a k j).toReal
    have har : ∀ k j, p k ≠ 0 → B j ≠ 0 → a k j = (ar k j : EReal) := fun k j h1 h2 => by
      obtain ⟨r, hr⟩ := h k j h1 h2
      simp [ar, hr]
    have e1 : ∀ j, (∑ k, p k * a k j) * B j = (((∑ k, pr k * ar k j) * br j : ℝ) : EReal) := fun j => by
      by_cases hb : B j = 0
      · have : br j = 0 := by have := hbr j; rw [hb] at this; exact_mod_cast this.symm
        rw [hb, this]; simp
      · rw [EReal.coe_mul, coe_sum, hbr j]
        congr 1
        refine Finset.sum_congr rfl fun k _ => ?_
        by_cases hk : p k = 0
        · have : pr k = 0 := by have := hpr k; rw [hk] at this; exact_mod_cast this.symm
          rw [hk, this]; simp
        · rw [har k j hk hb, hpr k, EReal.coe_mul]
    have e2 : ∀ k, (p k * ∑ j, a k j * B j) = ((pr k * ∑ j, ar k j * br j : ℝ) : EReal) := fun k => by
      by_cases hk : p k = 0
      · have : pr k = 0 := by have := hpr k; rw [hk] at this; exact_mod_cast this.symm
        rw [hk, this]; simp
      · rw [EReal.coe_mul, coe_sum, hpr k]
        congr 1
        refine Finset.sum_congr rfl fun j _ => ?_
        by_cases hb : B j = 0
        · have : br j = 0 := by have := hbr j; rw [hb] at this; exact_mod_cast this.symm
          rw [hb, this]; simp
        · rw [har k j hk hb, hbr j, EReal.coe_mul]
    rw [Finset.sum_congr rfl fun j _ => e1 j, Finset.sum_congr rfl fun k _ => e2 k]
    rw [← coe_sum, ← coe_sum]
    refine congrArg _ ?_
    simp only [Finset.sum_mul, Finset.mul_sum]
    rw [Finset.sum_comm]
    exact Finset.sum_congr rfl fun k _ => Finset.sum_congr rfl fun j _ => by ring
  · push Not at h
    obtain ⟨k, j, hk, hj, ha⟩ := h
    right
    refine ⟨sum_not_isReal _ _ j (Finset.mem_univ j) ?_, sum_not_isReal _ _ k (Finset.mem_univ k) ?_⟩
    · rw [mul_comm]
      exact mul_not_isReal (hB j) hj (sum_not_isReal _ _ k (Finset.mem_univ k) (mul_not_isReal (hp k) hk ha))
    · refine mul_not_isReal (hp k) hk (sum_not_isReal _ _ j (Finset.mem_univ j) ?_)
      rw [mul_comm]; exact mul_not_isReal (hB j) hj ha

/-! ## The two normalisations of one column -/

variable {n : ℕ}

/-- The mean of a column of `N` entries. -/
def mean (N : EReal) (x : Fin n → EReal) : EReal := Ideal.div (∑ s, x s) N

/-- The reference's: the deviation over the root of the mean squared deviation plus epsilon, scaled and shifted. -/
def refNorm (N ε : EReal) (x : Fin n → EReal) (g b : EReal) (r : Fin n) : EReal :=
  Ideal.div (x r - mean N x)
    (Ideal.sqrt (Ideal.div (∑ s, (x s - mean N x) * (x s - mean N x)) N + ε)) * g + b

/-- The kernel's scale, `g` over the root of the mean square minus the squared mean plus epsilon, from the two sums. -/
def scaleOf (N ε S Q g : EReal) : EReal :=
  Ideal.div g (Ideal.sqrt (Ideal.div Q N - Ideal.div S N * Ideal.div S N + ε))

/-- The kernel's shift. -/
def shiftOf (N ε S Q g b : EReal) : EReal := b - Ideal.div S N * scaleOf N ε S Q g

/-- The kernel's: one multiplication by the scale, one addition of the shift. -/
def kerNorm (N ε : EReal) (x : Fin n → EReal) (g b : EReal) (r : Fin n) : EReal :=
  x r * scaleOf N ε (∑ s, x s) (∑ s, x s * x s) g + shiftOf N ε (∑ s, x s) (∑ s, x s * x s) g b

theorem div_coe_pos {N : ℝ} (hN : 0 < N) (x : EReal) : Ideal.div x (N : EReal) = x * ((1 / N : ℝ) : EReal) :=
  Ideal.div_coe hN.ne' x

theorem div_top (x : EReal) : Ideal.div x ⊤ = 0 := by
  simp [Ideal.div]

theorem div_bot (x : EReal) : Ideal.div x ⊥ = 0 := by
  simp [Ideal.div]

theorem div_top_coe {N : ℝ} (hN : 0 < N) : Ideal.div ⊤ (N : EReal) = ⊤ := by
  rw [div_coe_pos hN]; exact EReal.top_mul_coe_of_pos (by positivity)

theorem div_bot_coe {N : ℝ} (hN : 0 < N) : Ideal.div ⊥ (N : EReal) = ⊥ := by
  rw [div_coe_pos hN]; exact EReal.bot_mul_coe_of_pos (by positivity)

theorem sq_nonneg' (x : EReal) : 0 ≤ x * x := by
  induction x using EReal.rec with
  | bot => simp
  | top => simp
  | coe r => exact_mod_cast mul_self_nonneg r

theorem sq_of_not_isReal {x : EReal} (h : ¬ IsReal x) : x * x = ⊤ := by
  rcases not_isReal_iff.mp h with rfl | rfl <;> simp

/-- A sum of squares with an infinite entry is `⊤`. -/
theorem sum_sq_top (x : Fin n → EReal) (s : Fin n) (h : ¬ IsReal (x s)) : ∑ s, x s * x s = ⊤ := by
  classical
  rw [← Finset.add_sum_erase _ _ (Finset.mem_univ s), sq_of_not_isReal h]
  have : 0 ≤ ∑ i ∈ Finset.univ.erase s, x i * x i := Finset.sum_nonneg fun i _ => sq_nonneg' _
  exact EReal.top_add_of_ne_bot (fun hb => by rw [hb] at this; simp at this)

theorem mean_not_isReal {N : ℝ} (hN : 0 < N) (x : Fin n → EReal) (s : Fin n) (h : ¬ IsReal (x s)) :
    ¬ IsReal (mean (N : EReal) x) := by
  unfold mean
  rcases not_isReal_iff.mp (sum_not_isReal Finset.univ x s (Finset.mem_univ s) h) with e | e <;> rw [e]
  · rw [div_bot_coe hN]; simp [IsReal]
  · rw [div_top_coe hN]; simp [IsReal]

/-- The reference's normalisation of a column with an infinity in it is the shift. -/
theorem refNorm_of_not_isReal {N ε : ℝ} (hN : 0 < N) (x : Fin n → EReal) (g b : EReal) (s : Fin n)
    (h : ¬ IsReal (x s)) (r : Fin n) : refNorm (N : EReal) (ε : EReal) x g b r = b := by
  unfold refNorm
  have hm := mean_not_isReal hN x s h
  have hd : ¬ IsReal (x s - mean (N : EReal) x) := by
    rw [sub_eq_add_neg]
    refine add_not_isReal_right ?_
    rcases not_isReal_iff.mp hm with e | e <;> rw [e] <;> simp [IsReal]
  rw [sum_sq_top (fun s => x s - mean (N : EReal) x) s hd, div_top_coe hN, EReal.top_add_coe, Ideal.sqrt_top, div_top,
    zero_mul, zero_add]

/-- The kernel's normalisation of a column with an infinity in it is the shift. -/
theorem kerNorm_of_not_isReal {N ε : ℝ} (hN : 0 < N) (x : Fin n → EReal) (g b : EReal) (s : Fin n)
    (h : ¬ IsReal (x s)) (r : Fin n) : kerNorm (N : EReal) (ε : EReal) x g b r = b := by
  have hs : scaleOf (N : EReal) (ε : EReal) (∑ s, x s) (∑ s, x s * x s) g = 0 := by
    unfold scaleOf
    rw [sum_sq_top x s h, div_top_coe hN, show Ideal.div (∑ s, x s) (N : EReal) * Ideal.div (∑ s, x s) (N : EReal) = ⊤ from
      sq_of_not_isReal (mean_not_isReal hN x s h)]
    simp [div_bot]
  unfold kerNorm shiftOf
  rw [hs]; simp

/-- On a column of reals with a real scale the two normalisations agree, whatever the shift. -/
theorem refNorm_eq_kerNorm_of_isReal {N ε : ℝ} (hn : N = n) (hN : 0 < N) (hε : 0 < ε) (x : Fin n → EReal) (g b : EReal)
    (hg : IsReal g) (h : ∀ s, IsReal (x s)) (r : Fin n) :
    refNorm (N : EReal) (ε : EReal) x g b r = kerNorm (N : EReal) (ε : EReal) x g b r := by
  choose y hy using h
  obtain ⟨γ, rfl⟩ := hg
  obtain rfl : x = fun s => (y s : EReal) := funext hy
  have hsum : (∑ s, (y s : EReal)) = ((∑ s, y s : ℝ) : EReal) := (coe_sum ..).symm
  have hsq : (∑ s, (y s : EReal) * (y s : EReal)) = ((∑ s, y s * y s : ℝ) : EReal) := by
    rw [coe_sum]; exact Finset.sum_congr rfl fun s _ => by push_cast; rfl
  set μ : ℝ := (∑ s, y s) * (1 / N) with hμ
  have hmean : mean (N : EReal) (fun s => (y s : EReal)) = (μ : EReal) := by
    unfold mean; rw [div_coe_pos hN, hsum, hμ]; push_cast; rfl
  have hdev : (∑ s, ((y s : EReal) - (μ : EReal)) * ((y s : EReal) - (μ : EReal)))
      = ((∑ s, (y s - μ) * (y s - μ) : ℝ) : EReal) := by
    rw [coe_sum]; exact Finset.sum_congr rfl fun s _ => by push_cast; rfl
  -- the mean squared deviation, both ways
  set v : ℝ := (∑ s, (y s - μ) * (y s - μ)) * (1 / N) with hv
  have hvar : (∑ s, y s * y s) * (1 / N) - μ * μ = v := by
    have hS : ∑ s, y s = N * μ := by rw [hμ]; field_simp
    have : ∑ s, (y s - μ) * (y s - μ) = (∑ s, y s * y s) - N * (μ * μ) := by
      calc ∑ s, (y s - μ) * (y s - μ) = ∑ s, (y s * y s - 2 * μ * y s + μ * μ) :=
            Finset.sum_congr rfl fun s _ => by ring
        _ = (∑ s, y s * y s) - 2 * μ * (∑ s, y s) + N * (μ * μ) := by
            rw [Finset.sum_add_distrib, Finset.sum_sub_distrib, ← Finset.mul_sum]
            simp [hn]
        _ = _ := by rw [hS]; ring
    rw [hv, this]; field_simp
  have hv0 : 0 ≤ v := mul_nonneg (Finset.sum_nonneg fun s _ => mul_self_nonneg _) (by positivity)
  have hpos : 0 < v + ε := by positivity
  have hσ : 0 < Real.sqrt (v + ε) := Real.sqrt_pos.mpr hpos
  have hsd : Ideal.sqrt (((v + ε : ℝ)) : EReal) = (Real.sqrt (v + ε) : EReal) := by
    rw [Ideal.sqrt_coe, if_neg (not_lt.mpr hpos.le)]
  have hscale : scaleOf (N : EReal) (ε : EReal) (∑ s, (y s : EReal)) (∑ s, (y s : EReal) * (y s : EReal)) (γ : EReal)
      = ((γ * (1 / Real.sqrt (v + ε)) : ℝ) : EReal) := by
    unfold scaleOf
    rw [hsum, hsq, div_coe_pos hN, div_coe_pos hN]
    have : (((∑ s, y s * y s : ℝ) : EReal) * ((1 / N : ℝ) : EReal)
        - ((∑ s, y s : ℝ) : EReal) * ((1 / N : ℝ) : EReal) * (((∑ s, y s : ℝ) : EReal) * ((1 / N : ℝ) : EReal)) + (ε : EReal))
        = ((v + ε : ℝ) : EReal) := by rw [← hvar, hμ]; push_cast; rfl
    rw [this, hsd, div_coe_pos hσ]; push_cast; rfl
  have hmu : Ideal.div (∑ s, (y s : EReal)) (N : EReal) = (μ : EReal) := hmean
  unfold refNorm kerNorm shiftOf
  rw [hscale, hmu, hmean, hdev, div_coe_pos hN]
  have e : ((∑ s, (y s - μ) * (y s - μ) : ℝ) : EReal) * ((1 / N : ℝ) : EReal) + (ε : EReal) = ((v + ε : ℝ) : EReal) := by
    rw [hv]; push_cast; rfl
  rw [e, hsd, div_coe_pos hσ]
  generalize 1 / Real.sqrt (v + ε) = w
  induction b using EReal.rec with
  | bot =>
    rw [show (μ : EReal) * ((γ * w : ℝ) : EReal) = ((μ * (γ * w) : ℝ) : EReal) by push_cast; rfl]
    simp [sub_eq_add_neg]
  | top =>
    have h1 : ((⊤ : EReal) - (μ : EReal) * ((γ * w : ℝ) : EReal)) = ⊤ := by
      rw [show (μ : EReal) * ((γ * w : ℝ) : EReal) = ((μ * (γ * w) : ℝ) : EReal) by push_cast; rfl]
      exact EReal.top_sub_coe _
    rw [h1]
    rw [show ((y r : EReal) - (μ : EReal)) * (w : EReal) * (γ : EReal) = (((y r - μ) * w * γ : ℝ) : EReal) by push_cast; rfl,
      show (y r : EReal) * ((γ * w : ℝ) : EReal) = ((y r * (γ * w) : ℝ) : EReal) by push_cast; rfl]
    rw [EReal.coe_add_top, EReal.coe_add_top]
  | coe β =>
    have : (y r - μ) * w * γ + β = y r * (γ * w) + (β - μ * (γ * w)) := by ring
    show ((y r : EReal) - (μ : EReal)) * (w : EReal) * (γ : EReal) + (β : EReal)
      = (y r : EReal) * ((γ * w : ℝ) : EReal) + ((β : EReal) - (μ : EReal) * ((γ * w : ℝ) : EReal))
    exact_mod_cast this

/-- The two normalisations agree on columns whose entries are pairwise equal or both infinite. -/
theorem refNorm_eq_kerNorm {N ε : ℝ} (hn : N = n) (hN : 0 < N) (hε : 0 < ε) (x y : Fin n → EReal) (g b : EReal)
    (hg : IsReal g) (h : ∀ s, Alike (x s) (y s)) (r : Fin n) :
    refNorm (N : EReal) (ε : EReal) x g b r = kerNorm (N : EReal) (ε : EReal) y g b r := by
  by_cases hx : ∀ s, IsReal (x s)
  · obtain rfl : x = y := funext fun s => (h s).resolve_right fun hh => hh.1 (hx s)
    exact refNorm_eq_kerNorm_of_isReal hn hN hε x g b hg hx r
  · push Not at hx
    obtain ⟨s, hs⟩ := hx
    have hs' : ¬ IsReal (y s) := by
      rcases h s with e | e
      · rwa [← e]
      · exact e.2
    rw [refNorm_of_not_isReal hN x g b s hs, kerNorm_of_not_isReal hN y g b s hs']

end Cert.Algebra
-- ==== Proof.Lits.lean ====
/-
  The float literals the two programs spell, as extended reals.
-/
module

public import proofs.«01_k».proof.Proof.Algebra
public import Idealize.ShloMosaic.Lib.Pointwise

@[expose] public section

noncomputable section

namespace Cert.Algebra

open Idealize.ShloMosaic

/-- The number of cycle rows. -/
theorem lit_30000 : Ideal.ofBits .f32 0x46EA6000#32 = ((30000 : ℝ) : EReal) := by
  simp [Ideal.ofBits, Ideal.ieee]
  rw [← EReal.coe_mul]
  norm_num

/-- The number of edge rows. -/
theorem lit_320000 : Ideal.ofBits .f32 0x489C4000#32 = ((320000 : ℝ) : EReal) := by
  simp [Ideal.ofBits, Ideal.ieee]
  rw [← EReal.coe_mul]
  norm_num

/-- Epsilon is a positive real. -/
theorem lit_eps : ∃ ε : ℝ, 0 < ε ∧ Ideal.ofBits .f32 0x3727C5AC#32 = (ε : EReal) := by
  simp [Ideal.ofBits, Ideal.ieee]
  exact ⟨10995116 * (2 ^ 40)⁻¹, by norm_num, (EReal.coe_mul _ _).symm⟩

/-- Not-a-number reads as the least value. -/
theorem lit_nan : Ideal.ofBits .f32 0x7FC00000#32 = ⊥ := by
  simp [Ideal.ofBits, Ideal.ieee]

/-- Infinity. -/
theorem lit_inf : Ideal.ofBits .f32 0x7F800000#32 = ⊤ := by
  simp [Ideal.ofBits, Ideal.ieee]

/-- Zero. -/
theorem lit_zero : Ideal.ofBits .f32 0x00000000#32 = 0 := by
  simp [Ideal.ofBits, Ideal.ieee]

end Cert.Algebra
-- ==== Proof.Halves.lean ====
module

public import proofs.«01_k».proof.Proof.Algebra
public import proofs.«01_k».proof.Proof.Lits

/-!
# A half of the network, as each program computes it

Two layers, each a normalisation over the rows followed by a clamp at zero, with a product by a weight in
between. The reference normalises by mean and variance; the kernel scales and shifts by what it makes
of the column sums. The two agree when the gains are real and the first layer's entries are alike.
-/

@[expose] public section
noncomputable section
namespace Cert.Algebra

variable {n w v : ℕ}

/-- The half as the reference computes it. -/
def refHalf (N ε : EReal) (Y : Fin n → Fin w → EReal) (g1 b1 : Fin w → EReal) (W : Fin w → Fin v → EReal) (g2 b2 : Fin v → EReal)
    (r : Fin n) (l : Fin v) : EReal :=
  max (refNorm N ε (fun s => ∑ k, max (refNorm N ε (fun t => Y t k) (g1 k) (b1 k) s) 0 * W k l) (g2 l) (b2 l) r) 0

/-- The half as the kernel computes it. -/
def kerHalf (N ε : EReal) (Y : Fin n → Fin w → EReal) (g1 b1 : Fin w → EReal) (W : Fin w → Fin v → EReal) (g2 b2 : Fin v → EReal)
    (r : Fin n) (l : Fin v) : EReal :=
  max (kerNorm N ε (fun s => ∑ k, max (kerNorm N ε (fun t => Y t k) (g1 k) (b1 k) s) 0 * W k l) (g2 l) (b2 l) r) 0

/-- The two agree. -/
theorem half_eq {N ε : ℝ} (hn : N = n) (hN : 0 < N) (hε : 0 < ε) (Y Z : Fin n → Fin w → EReal) (g1 b1 : Fin w → EReal)
    (W : Fin w → Fin v → EReal) (g2 b2 : Fin v → EReal) (hg1 : ∀ k, IsReal (g1 k)) (hg2 : ∀ l, IsReal (g2 l))
    (h : ∀ r k, Alike (Y r k) (Z r k)) (r : Fin n) (l : Fin v) :
    refHalf N ε Y g1 b1 W g2 b2 r l = kerHalf N ε Z g1 b1 W g2 b2 r l := by
  have e : ∀ s k, refNorm (N : EReal) ε (fun t => Y t k) (g1 k) (b1 k) s = kerNorm N ε (fun t => Z t k) (g1 k) (b1 k) s :=
    fun s k => refNorm_eq_kerNorm hn hN hε _ _ (g1 k) (b1 k) (hg1 k) (fun t => h t k) s
  unfold refHalf kerHalf
  rw [refNorm_eq_kerNorm hn hN hε _ _ (g2 l) (b2 l) (hg2 l) (fun s => Alike.rfl') r]
  simp only [e]

end Cert.Algebra

end
-- ==== Proof.TwoRows.lean ====
/-
  A two-row buffer written one row at a time.

  The statistics blocks hold two rows, the column sums and the column sums of squares. A grid point stores each row
  whole, computed from that row as it was; the first point fills both with zeros beforehand. Here: what such stores
  leave, at an index, for any payloads.
-/
module

public import Idealize.ShloMosaic.Lib.Pipeline.ValueKit
public import Idealize.ShloMosaic.Lib.Pipeline.ReadBack
public import Idealize.ShloMosaic.Lib.Pointwise

@[expose] public section

noncomputable section

namespace Cert.TwoRows

open Idealize.ShloMosaic

variable {Val : EltTy → Type} [∀ e, Nonempty (Val e)] {e : EltTy} {n : ℕ}

/-- Two rows of `n`. -/
abbrev S2 (n : ℕ) : Shape := ⟨2, ![2, n]⟩
/-- One row of `n`. -/
abbrev S1 (n : ℕ) : Shape := ⟨2, ![1, n]⟩

abbrev rect1 (inb : ∀ a, (![1, 0] : Fin (S2 n).rank → ℕ) a + (![1, n] : Fin (S2 n).rank → ℕ) a ≤ (S2 n).size a) : Rect (S2 n) := Rect.unit (s := S2 n) ![1, 0] ![1, n] inb
abbrev rect0 (inb : ∀ a, (![0, 0] : Fin (S2 n).rank → ℕ) a + (![1, n] : Fin (S2 n).rank → ℕ) a ≤ (S2 n).size a) : Rect (S2 n) := Rect.unit (s := S2 n) ![0, 0] ![1, n] inb

theorem emb1 (inb) (j : (S1 n).Idx) : (rect1 (n := n) inb).emb j = ix2 1 (j 1) := by
  funext a
  apply Fin.ext
  have h0 : (j 0 : ℕ) = 0 := by have : (j 0 : ℕ) < 1 := (j 0).isLt; omega
  match a with
  | 0 => show 1 + 1 * (j 0 : ℕ) = 1; omega
  | 1 => show 0 + 1 * (j 1 : ℕ) = (j 1 : ℕ); omega

theorem emb0 (inb) (j : (S1 n).Idx) : (rect0 (n := n) inb).emb j = ix2 0 (j 1) := by
  funext a
  apply Fin.ext
  have h0 : (j 0 : ℕ) = 0 := by have : (j 0 : ℕ) < 1 := (j 0).isLt; omega
  match a with
  | 0 => show 0 + 1 * (j 0 : ℕ) = 0; omega
  | 1 => show 0 + 1 * (j 1 : ℕ) = (j 1 : ℕ); omega

/-- A load of either row, read at a column. -/
theorem ld0 (inb) (X : (S2 n).Idx → Val e) (l : Fin n) : View.ld X (rect0 inb) (ix2 0 l : (S1 n).Idx) = X (ix2 0 l) :=
  congrArg X (emb0 inb (ix2 0 l))

theorem ld1 (inb) (X : (S2 n).Idx → Val e) (l : Fin n) : View.ld X (rect1 inb) (ix2 0 l : (S1 n).Idx) = X (ix2 1 l) :=
  congrArg X (emb1 inb (ix2 0 l))

theorem not_mem1 (inb) (l : Fin n) : (ix2 0 l : (S2 n).Idx) ∉ (rect1 (n := n) inb).set := by
  intro h
  obtain ⟨j, hj⟩ := (rect1 (n := n) inb).exists_idx_of_mem h
  have := hj.symm.trans (emb1 inb j)
  exact absurd (congrArg Fin.val (congrFun this 0)) (by show ¬ (0 : ℕ) = 1; omega)

/-- Both rows stored: each index reads its row's payload, whatever was there. -/
theorem canon_rows (inb1) (inb0) (p1 p0 : (S1 n).Idx → Val e) (L : List (View.Piece Val (S2 n) e)) (r : Fin 2) (l : Fin n) :
    View.canon (⟨rect1 inb1, p1⟩ :: ⟨rect0 inb0, p0⟩ :: L) (ix2 r l) = if r = 0 then p0 (ix2 0 l) else p1 (ix2 0 l) := by
  match r with
  | 0 =>
    have hn : View.canon (⟨rect1 inb1, p1⟩ :: ⟨rect0 inb0, p0⟩ :: L) (ix2 0 l) = View.canon (⟨rect0 inb0, p0⟩ :: L) (ix2 0 l) :=
      View.canon_cons_of_not_mem (⟨rect1 inb1, p1⟩ : View.Piece Val (S2 n) e) (⟨rect0 inb0, p0⟩ :: L) (y := ix2 0 l) (not_mem1 inb1 l)
    rw [if_pos rfl, hn]
    have := View.canon_cons_emb (rect0 inb0) p0 L (show (S1 n).Idx from ix2 0 l)
    rw [emb0] at this
    exact this
  | 1 =>
    rw [if_neg (by decide)]
    have := View.canon_cons_emb (rect1 inb1) p1 (⟨rect0 inb0, p0⟩ :: L) (show (S1 n).Idx from ix2 0 l)
    rw [emb1] at this
    exact this

/-- A later point: each row from that row of the previous contents. -/
theorem step (inb1) (inb0) (P3 P4 : ((S1 n).Idx → Val e) → (S1 n).Idx → Val e) (X : (S2 n).Idx → Val e) (r : Fin 2) (l : Fin n) :
    View.canon [⟨rect1 inb1, P4 (View.ld X (rect1 inb1))⟩, ⟨rect0 inb0, P3 (View.ld X (rect0 inb0))⟩] (ix2 r l)
      = if r = 0 then P3 (fun i => X (ix2 0 (i 1))) (ix2 0 l) else P4 (fun i => X (ix2 1 (i 1))) (ix2 0 l) := by
  rw [canon_rows]
  have h0 : View.ld X (rect0 inb0) = fun i => X (ix2 0 (i 1)) := funext fun i => congrArg X (emb0 inb0 i)
  have h1 : View.ld X (rect1 inb1) = fun i => X (ix2 1 (i 1)) := funext fun i => congrArg X (emb1 inb1 i)
  rw [h0, h1]
  rfl

/-- The first point: each row from that row of the fill. -/
theorem first {sig : RefSig} {κ : Kind} {sp : Space} (v : View sig κ sp (S2 n) e) (inb1) (inb0) (inbZ)
    (P3 P4 : ((S1 n).Idx → Val e) → (S1 n).Idx → Val e) (Z : (S2 n).Idx → Val e) (r : Fin 2) (l : Fin n) :
    View.canon [⟨rect1 inb1, P4 (v.readCov [⟨rect0 inb0, P3 (v.readCov [⟨Rect.unit ![0, 0] ![2, n] inbZ, Z⟩] (rect0 inb0).toLoadRect)⟩,
          ⟨Rect.unit ![0, 0] ![2, n] inbZ, Z⟩] (rect1 inb1).toLoadRect)⟩,
        ⟨rect0 inb0, P3 (v.readCov [⟨Rect.unit ![0, 0] ![2, n] inbZ, Z⟩] (rect0 inb0).toLoadRect)⟩,
        ⟨Rect.unit ![0, 0] ![2, n] inbZ, Z⟩] (ix2 r l)
      = if r = 0 then P3 (fun i => Z (ix2 0 (i 1))) (ix2 0 l) else P4 (fun i => Z (ix2 1 (i 1))) (ix2 0 l) := by
  rw [canon_rows]
  have hz : ∀ (y : (S2 n).Idx), View.canon (Val := Val) [⟨Rect.unit (s := S2 n) ![0, 0] ![2, n] inbZ, Z⟩] y = Z y := fun y =>
    congrFun (View.canon_unit_zero (S := S2 n) (by funext a; fin_cases a <;> rfl) inbZ Z) y
  have h0 : v.readCov [⟨Rect.unit ![0, 0] ![2, n] inbZ, Z⟩] (rect0 inb0).toLoadRect = fun i => Z (ix2 0 (i 1)) := by
    rw [View.readCov_eq_canon']
    funext i
    exact (hz _).trans (congrArg Z (emb0 inb0 i))
  have h1 : ∀ p : (S1 n).Idx → Val e, v.readCov [⟨rect0 inb0, p⟩, ⟨Rect.unit ![0, 0] ![2, n] inbZ, Z⟩] (rect1 inb1).toLoadRect
      = fun i => Z (ix2 1 (i 1)) := fun p => by
    rw [View.readCov_eq_canon']
    funext i
    have hi : (rect1 inb1).toLoadRect.idx i = ix2 1 (i 1) := emb1 inb1 i
    rw [hi]
    refine (View.canon_cons_of_not_mem (⟨rect0 inb0, p⟩ : View.Piece Val (S2 n) e) _ (y := ix2 1 (i 1)) fun h => ?_).trans (hz _)
    obtain ⟨j, hj⟩ := (rect0 (n := n) inb0).exists_idx_of_mem h
    have := hj.symm.trans (emb0 inb0 j)
    exact absurd (congrArg Fin.val (congrFun this 0)) (by show ¬ (1 : ℕ) = 0; omega)
  rw [h0, h1]
  rfl

end Cert.TwoRows
-- ==== Proof.Cols.lean ====
/-
  The column functions the passes compute, over arrays: the first linear layer's rows, the second layer's rows after a
  scale, a shift and a clamp, and the two statistics rows of either.
-/
module

public import proofs.«01_k».proof.Proof.Gen.KernelIdeal
public import proofs.«01_k».proof.Proof.Algebra
public import proofs.«01_k».proof.Proof.TwoRows

@[expose] public section

noncomputable section

namespace Cert.KernelIdeal.Value

open Idealize.ShloMosaic Cert.KernelIdeal

/-- The first layer's entry at row `r`, column `l` of the cycle half: the row's 128 own features against `A`, the size
    group's 128 pooled features against that size's matrix. Size groups are 5000 rows each. -/
def cycY (x p : FVec Ideal S30000x128 .f32) (A : FVec Ideal S128x256 .f32) (M : FVec Ideal S6x128x256 .f32)
    (r : Fin 30000) (l : Fin 256) : EReal :=
  (∑ k : Fin 128, x (ix2 r k) * A (ix2 k l)) + ∑ k : Fin 128, p (ix2 r k) * M (ix3 (⟨r.val / 5000, by omega⟩ : Fin 6) k l)

/-- The first layer's entry of the edge half. -/
def edgeY (x p : FVec Ideal S320000x128 .f32) (A M : FVec Ideal S128x256 .f32) (r : Fin 320000) (l : Fin 256) : EReal :=
  (∑ k : Fin 128, x (ix2 r k) * A (ix2 k l)) + ∑ k : Fin 128, p (ix2 r k) * M (ix2 k l)

/-- The second layer's entry: the first layer's row scaled and shifted by the two rows of `ss`, clamped at zero, against
    column `l` of `W`. -/
def second {n : ℕ} (Y : Fin n → Fin 256 → EReal) (ss : FVec Ideal S2x256 .f32) (W : FVec Ideal S256x128 .f32) (r : Fin n)
    (l : Fin 128) : EReal :=
  ∑ k : Fin 256, max (Y r k * ss (ix2 0 k) + ss (ix2 1 k)) 0 * W (ix2 k l)

/-- The statistics rows: row 0 the column's sum, row 1 the sum of its squares. -/
def stats {n w : ℕ} (Y : Fin n → Fin w → EReal) (r : Fin 2) (l : Fin w) : EReal :=
  if r = 0 then ∑ s : Fin n, Y s l else ∑ s : Fin n, Y s l * Y s l

/-- What the first point's two stores leave over a zero fill, when the payloads add the statistics of the block's rows. -/
theorem first_stats {sig : RefSig} {κ : Kind} {sp : Space} {R n : ℕ} (v : View sig κ sp (TwoRows.S2 n) .f32) (inb1) (inb0) (inbZ)
    (P3 P4 : ((TwoRows.S1 n).Idx → Elt Ideal .f32) → (TwoRows.S1 n).Idx → Elt Ideal .f32) (Z : (TwoRows.S2 n).Idx → Elt Ideal .f32)
    (Y : Fin R → Fin n → EReal) (hZ : ∀ j, Z j = (0 : EReal))
    (h3 : ∀ (acc : (TwoRows.S1 n).Idx → EReal) l, P3 acc (ix2 0 l) = acc (ix2 0 l) + ∑ r, Y r l)
    (h4 : ∀ (acc : (TwoRows.S1 n).Idx → EReal) l, P4 acc (ix2 0 l) = acc (ix2 0 l) + ∑ r, Y r l * Y r l) (r : Fin 2) (l : Fin n) :
    (View.canon [⟨TwoRows.rect1 inb1, P4 (v.readCov [⟨TwoRows.rect0 inb0, P3 (v.readCov [⟨Rect.unit ![0, 0] ![2, n] inbZ, Z⟩] (TwoRows.rect0 inb0).toLoadRect)⟩,
          ⟨Rect.unit ![0, 0] ![2, n] inbZ, Z⟩] (TwoRows.rect1 inb1).toLoadRect)⟩,
        ⟨TwoRows.rect0 inb0, P3 (v.readCov [⟨Rect.unit ![0, 0] ![2, n] inbZ, Z⟩] (TwoRows.rect0 inb0).toLoadRect)⟩,
        ⟨Rect.unit ![0, 0] ![2, n] inbZ, Z⟩] : (TwoRows.S2 n).Idx → EReal) (ix2 r l) = 0 + stats Y r l := by
  refine (TwoRows.first v inb1 inb0 inbZ P3 P4 Z r l).trans ?_
  rw [h3, h4, hZ, hZ]
  unfold stats
  split <;> rfl

/-- What a later point's two stores leave over the previous contents, when the payloads add the statistics of the block's
    rows. -/
theorem step_stats {R n : ℕ} (inb1) (inb0)
    (P3 P4 : ((TwoRows.S1 n).Idx → Elt Ideal .f32) → (TwoRows.S1 n).Idx → Elt Ideal .f32) (X : (TwoRows.S2 n).Idx → Elt Ideal .f32)
    (Y : Fin R → Fin n → EReal)
    (h3 : ∀ (acc : (TwoRows.S1 n).Idx → EReal) l, P3 acc (ix2 0 l) = acc (ix2 0 l) + ∑ r, Y r l)
    (h4 : ∀ (acc : (TwoRows.S1 n).Idx → EReal) l, P4 acc (ix2 0 l) = acc (ix2 0 l) + ∑ r, Y r l * Y r l) (r : Fin 2) (l : Fin n) :
    (View.canon [⟨TwoRows.rect1 inb1, P4 (View.ld X (TwoRows.rect1 inb1))⟩, ⟨TwoRows.rect0 inb0, P3 (View.ld X (TwoRows.rect0 inb0))⟩]
        : (TwoRows.S2 n).Idx → EReal) (ix2 r l) = (X (ix2 r l) : EReal) + stats Y r l := by
  refine (TwoRows.step inb1 inb0 P3 P4 X r l).trans ?_
  rw [h3, h4]
  unfold stats
  rcases Fin.exists_fin_two.mp ⟨r, rfl⟩ with rfl | rfl <;> rfl

/-- The statistics of the rows are the sum of the statistics of their `J` tiles of `T` rows. -/
theorem stats_tiles {J T n w : ℕ} (hn : n = J * T) (Yb : Fin J → Fin T → Fin w → EReal) (Y : Fin n → Fin w → EReal)
    (h : ∀ (j : Fin J) (t : Fin T) (hl : j.val * T + t.val < n) (l : Fin w), Yb j t l = Y ⟨j.val * T + t.val, hl⟩ l) (r : Fin 2)
    (l : Fin w) : ∑ j : Fin J, stats (Yb j) r l = stats Y r l := by
  subst hn
  have hb : ∀ (j : Fin J) (t : Fin T), j.val * T + t.val < J * T := fun j t => by
    calc j.val * T + t.val < j.val * T + T := by omega
      _ = (j.val + 1) * T := by ring
      _ ≤ J * T := Nat.mul_le_mul_right T j.isLt
  unfold stats
  split
  · rw [Fin.sum_univ_tiles J T rfl]
    exact Finset.sum_congr rfl fun j _ => Finset.sum_congr rfl fun t _ => h j t (hb j t) l
  · rw [Fin.sum_univ_tiles J T rfl]
    exact Finset.sum_congr rfl fun j _ => Finset.sum_congr rfl fun t _ => by rw [h j t (hb j t) l]

end Cert.KernelIdeal.Value
-- ==== Proof.Host.lean ====
module

public import proofs.«01_k».proof.Proof.Gen.KernelIdeal.Launch
public import proofs.«01_k».proof.Proof.Cols
public import Idealize.ShloMosaic.Lib.StableHlo.RunRead

/-!
# The host stretches that turn column statistics into scale and shift

Between two regions the kernel's host takes the two rows a region left (the column sums and the
column sums of squares) and makes the two rows the next region reads: the scale, gain over
the root of variance plus epsilon, and the shift, bias less mean times scale. The four stretches differ
in width, in the number of rows and in which arguments they read.
-/

@[expose] public section
set_option maxRecDepth 16384
noncomputable section
open Idealize.ShloMosaic Idealize.ShloMosaic.TcCoe Idealize.SL.Sem
namespace Cert.KernelIdeal.Value
open Cert.KernelIdeal Cert.KernelIdeal.Gen Cert.Algebra

/-- The number of rows of the cycle half, as the kernel's literal. -/
abbrev nCyc : EReal := Ideal.ofBits .f32 0x46EA6000#32
/-- The number of rows of the edge half, as the kernel's literal. -/
abbrev nEdge : EReal := Ideal.ofBits .f32 0x489C4000#32
/-- The epsilon under the root, as the kernel's literal. -/
abbrev eps : EReal := Ideal.ofBits .f32 0x3727C5AC#32

variable (U : Valuation τ sig (Elt Ideal))

/-- Row 0 of what stretch 1 hands on: the scale. -/
theorem scale1 (l : Fin 256) :
    (StableHlo.after hostOps1 U (Proc.devRef .tc main_v36) : S2x256.Idx → EReal) (ix2 0 l) =
      scaleOf nCyc eps ((U (Proc.devRef .tc main_v17) : S2x256.Idx → EReal) (ix2 0 l))
        ((U (Proc.devRef .tc main_v17) : S2x256.Idx → EReal) (ix2 1 l)) ((U (Proc.devRef .tc main_arg10) : S256.Idx → EReal) (ix1 l)) := by
  after_reads_simp
  pointwise [scaleOf]

/-- Row 1 of what stretch 1 hands on: the shift. -/
theorem shift1 (l : Fin 256) :
    (StableHlo.after hostOps1 U (Proc.devRef .tc main_v36) : S2x256.Idx → EReal) (ix2 1 l) =
      shiftOf nCyc eps ((U (Proc.devRef .tc main_v17) : S2x256.Idx → EReal) (ix2 0 l))
        ((U (Proc.devRef .tc main_v17) : S2x256.Idx → EReal) (ix2 1 l)) ((U (Proc.devRef .tc main_arg10) : S256.Idx → EReal) (ix1 l))
        ((U (Proc.devRef .tc main_arg11) : S256.Idx → EReal) (ix1 l)) := by
  after_reads_simp
  pointwise [shiftOf, scaleOf]

/-- Row 0 of what stretch 2 hands on: the scale. -/
theorem scale2 (l : Fin 128) :
    (StableHlo.after hostOps2 U (Proc.devRef .tc main_v56) : S2x128.Idx → EReal) (ix2 0 l) =
      scaleOf nCyc eps ((U (Proc.devRef .tc main_v37_1) : S2x128.Idx → EReal) (ix2 0 l))
        ((U (Proc.devRef .tc main_v37_1) : S2x128.Idx → EReal) (ix2 1 l)) ((U (Proc.devRef .tc main_arg13) : S128.Idx → EReal) (ix1 l)) := by
  after_reads_simp
  pointwise [scaleOf]

/-- Row 1 of what stretch 2 hands on: the shift. -/
theorem shift2 (l : Fin 128) :
    (StableHlo.after hostOps2 U (Proc.devRef .tc main_v56) : S2x128.Idx → EReal) (ix2 1 l) =
      shiftOf nCyc eps ((U (Proc.devRef .tc main_v37_1) : S2x128.Idx → EReal) (ix2 0 l))
        ((U (Proc.devRef .tc main_v37_1) : S2x128.Idx → EReal) (ix2 1 l)) ((U (Proc.devRef .tc main_arg13) : S128.Idx → EReal) (ix1 l))
        ((U (Proc.devRef .tc main_arg14) : S128.Idx → EReal) (ix1 l)) := by
  after_reads_simp
  pointwise [shiftOf, scaleOf]

/-- Row 0 of what stretch 4 hands on: the scale. -/
theorem scale4 (l : Fin 256) :
    (StableHlo.after hostOps4 U (Proc.devRef .tc main_v146) : S2x256.Idx → EReal) (ix2 0 l) =
      scaleOf nEdge eps ((U (Proc.devRef .tc main_v127) : S2x256.Idx → EReal) (ix2 0 l))
        ((U (Proc.devRef .tc main_v127) : S2x256.Idx → EReal) (ix2 1 l)) ((U (Proc.devRef .tc main_arg16) : S256.Idx → EReal) (ix1 l)) := by
  after_reads_simp
  pointwise [scaleOf]

/-- Row 1 of what stretch 4 hands on: the shift. -/
theorem shift4 (l : Fin 256) :
    (StableHlo.after hostOps4 U (Proc.devRef .tc main_v146) : S2x256.Idx → EReal) (ix2 1 l) =
      shiftOf nEdge eps ((U (Proc.devRef .tc main_v127) : S2x256.Idx → EReal) (ix2 0 l))
        ((U (Proc.devRef .tc main_v127) : S2x256.Idx → EReal) (ix2 1 l)) ((U (Proc.devRef .tc main_arg16) : S256.Idx → EReal) (ix1 l))
        ((U (Proc.devRef .tc main_arg17) : S256.Idx → EReal) (ix1 l)) := by
  after_reads_simp
  pointwise [shiftOf, scaleOf]

/-- Row 0 of what stretch 5 hands on: the scale. -/
theorem scale5 (l : Fin 128) :
    (StableHlo.after hostOps5 U (Proc.devRef .tc main_v166) : S2x128.Idx → EReal) (ix2 0 l) =
      scaleOf nEdge eps ((U (Proc.devRef .tc main_v147_1) : S2x128.Idx → EReal) (ix2 0 l))
        ((U (Proc.devRef .tc main_v147_1) : S2x128.Idx → EReal) (ix2 1 l)) ((U (Proc.devRef .tc main_arg19) : S128.Idx → EReal) (ix1 l)) := by
  after_reads_simp
  pointwise [scaleOf]

/-- Row 1 of what stretch 5 hands on: the shift. -/
theorem shift5 (l : Fin 128) :
    (StableHlo.after hostOps5 U (Proc.devRef .tc main_v166) : S2x128.Idx → EReal) (ix2 1 l) =
      shiftOf nEdge eps ((U (Proc.devRef .tc main_v147_1) : S2x128.Idx → EReal) (ix2 0 l))
        ((U (Proc.devRef .tc main_v147_1) : S2x128.Idx → EReal) (ix2 1 l)) ((U (Proc.devRef .tc main_arg19) : S128.Idx → EReal) (ix1 l))
        ((U (Proc.devRef .tc main_arg20) : S128.Idx → EReal) (ix1 l)) := by
  after_reads_simp
  pointwise [shiftOf, scaleOf]

end Cert.KernelIdeal.Value

end
-- ==== Proof.Pool.lean ====
module

public import proofs.«01_k».proof.Proof.Algebra
public import proofs.«01_k».proof.Proof.Lits
public import Idealize.ShloMosaic.PureOps
public import Idealize.ShloMosaic.Lib.ReduceAll
public import Idealize.ShloMosaic.Lib.Pointwise
public import Idealize.ShloMosaic.Lib.Tactic.WordOmega

/-!
# Rows taken by index, and their sums

Both programs take rows of the edge representation by index words: a negative word is wrapped once by
the number of rows, a word that is still outside gives a row of not-a-number, and the rows one cycle names are
added. The definitions below are that chain at any shapes. With every word in range and every
entry of the table real, every entry of the sum is real.
-/

@[expose] public section
noncomputable section
open Idealize.ShloMosaic
namespace Cert.Pool
open Cert.Algebra

/-- The shape of a single number. -/
abbrev S0 : Shape := ⟨0, ![]⟩
/-- The shape of a one-entry vector. -/
abbrev S1 : Shape := ⟨1, ![1]⟩
/-- The shape of a one-entry box. -/
abbrev S111 : Shape := ⟨3, ![1, 1, 1]⟩

variable {si si1 sx sr so : Shape} {m1 : Fin si.rank → Fin si1.rank} {m2 : Fin 1 → Fin S111.rank} {m3 : Fin 3 → Fin si1.rank}
  {m4 : Fin si.rank → Fin sr.rank} {ax : List (Fin si1.rank)} {ay : List (Fin sr.rank)}

/-- An index word, a negative one moved up by the number of rows. -/
def wrapped (b : S0.BroadcastsInDim si ![]) (w : IVec si 32) : IVec si 32 :=
  select (cmpi .slt w (broadcastInDim si ![] b (constantI S0 32 0#32)))
    (addi w (broadcastInDim si ![] b (constantI S0 32 320000#32))) w

/-- The wrapped words, each as a one-entry vector of start indices. -/
def words (b : S0.BroadcastsInDim si ![]) (b1 : si.BroadcastsInDim si1 m1) (w : IVec si 32) : IVec si1 32 :=
  broadcastInDim si1 m1 b1 (wrapped b w)

/-- Whether a wrapped word names a row. -/
def inside (b : S0.BroadcastsInDim si ![]) (b1 : si.BroadcastsInDim si1 m1) (b0 : S0.BroadcastsInDim si1 ![])
    (b2 : S1.BroadcastsInDim S111 m2) (b3 : S111.BroadcastsInDim si1 m3) (w : IVec si 32) : IVec si1 1 :=
  andi (cmpi .sge (words b b1 w) (broadcastInDim si1 ![] b0 (constantI S0 32 0#32)))
    (cmpi .sle (words b b1 w) (broadcastInDim si1 m3 b3 (broadcastInDim S111 m2 b2 (constantI S1 32 319999#32))))

/-- The rows taken: the named row where the word names one, not-a-number elsewhere. -/
def taken (b : S0.BroadcastsInDim si ![]) (b1 : si.BroadcastsInDim si1 m1) (b0 : S0.BroadcastsInDim si1 ![])
    (b2 : S1.BroadcastsInDim S111 m2) (b3 : S111.BroadcastsInDim si1 m3) (h : si1.ReducesTo ax si) (hu : 0 < S0.numel)
    (b4 : si.BroadcastsInDim sr m4) (b5 : S0.BroadcastsInDim sr ![]) (g : GatherDims sx si1 sr)
    (x : FVec Ideal sx .f32) (w : IVec si 32) : FVec Ideal sr .f32 :=
  select (broadcastInDim sr m4 b4 (Host.reduce IntOp.andi (inside b b1 b0 b2 b3 w) (constantI S0 1 1#1) h hu))
    (Host.gather g x (words b b1 w)) (broadcastInDim sr ![] b5 (constant (F := Ideal) S0 .f32 0x7FC00000#32))

/-- The sum of the rows over one axis. -/
def summed (h : sr.ReducesTo ay so) (hu : 0 < S0.numel) (x : FVec Ideal sr .f32) : FVec Ideal so .f32 :=
  Host.reduceAdd x (constant (F := Ideal) S0 .f32 0x00000000#32) h hu

/-- A word in range is left as it is. -/
theorem wrapped_at (b : S0.BroadcastsInDim si ![]) (w : IVec si 32) (j : si.Idx) (h0 : 0 ≤ (w j).toInt) :
    wrapped b w j = w j := by
  pointwise [wrapped]
  word_omega

/-- With every word in range, every bit of `inside` is set. -/
theorem inside_at (b : S0.BroadcastsInDim si ![]) (b1 : si.BroadcastsInDim si1 m1) (b0 : S0.BroadcastsInDim si1 ![])
    (b2 : S1.BroadcastsInDim S111 m2) (b3 : S111.BroadcastsInDim si1 m3) (w : IVec si 32)
    (hw : ∀ j, 0 ≤ (w j).toInt ∧ (w j).toInt < 320000) (j : si1.Idx) :
    inside b b1 b0 b2 b3 w j = 1#1 := by
  have hj : ∀ j, 0 ≤ (words b b1 w j).toInt ∧ (words b b1 w j).toInt < 320000 := by
    intro j
    obtain ⟨i, e⟩ : ∃ i, words b b1 w j = wrapped b w i := ⟨_, rfl⟩
    rw [e, wrapped_at b w _ (hw _).1]
    exact hw _
  have := hj j
  show IntOp.andi (IntOp.cmpi .sge (words b b1 w j) 0#32) (IntOp.cmpi .sle (words b b1 w j) 319999#32) = 1#1
  generalize words b b1 w j = v at this
  word_omega

/-- With every word in range and every entry of the table real, every entry taken is real. -/
theorem taken_real (b : S0.BroadcastsInDim si ![]) (b1 : si.BroadcastsInDim si1 m1) (b0 : S0.BroadcastsInDim si1 ![])
    (b2 : S1.BroadcastsInDim S111 m2) (b3 : S111.BroadcastsInDim si1 m3) (h : si1.ReducesTo ax si) (hu : 0 < S0.numel)
    (b4 : si.BroadcastsInDim sr m4) (b5 : S0.BroadcastsInDim sr ![]) (g : GatherDims sx si1 sr)
    (x : FVec Ideal sx .f32) (w : IVec si 32) (hx : ∀ j, IsReal (x j))
    (hw : ∀ j, 0 ≤ (w j).toInt ∧ (w j).toInt < 320000) (j : sr.Idx) :
    IsReal (taken b b1 b0 b2 b3 h hu b4 b5 g x w j) := by
  obtain ⟨i, e⟩ : ∃ i, taken b b1 b0 b2 b3 h hu b4 b5 g x w j = Scalar.select
      (Host.reduce IntOp.andi (inside b b1 b0 b2 b3 w) (constantI S0 1 1#1) h hu i)
      (x (g.operandIdx j (words b b1 w))) (Ideal.ofBits .f32 0x7FC00000#32) := ⟨_, rfl⟩
  rw [e, Host.reduce_andi_one _ _ h hu _ rfl (inside_at b b1 b0 b2 b3 w hw)]
  exact hx _

/-- A sum of real entries is real. -/
theorem summed_real (h : sr.ReducesTo ay so) (hu : 0 < S0.numel) (x : FVec Ideal sr .f32) (hx : ∀ j, IsReal (x j))
    (j : so.Idx) : IsReal (summed h hu x j) := by
  have e : summed h hu x j = Ideal.ofBits .f32 0x00000000#32 + ∑ i ∈ Finset.univ.filter (fun i => h.drop i = j), x i := rfl
  rw [e, lit_zero, zero_add]
  exact isReal_sum _ _ fun i _ => hx i

end Cert.Pool

end
-- ==== Proof.KernelPool.lean ====
module

public import proofs.«01_k».proof.Proof.Gen.KernelIdeal.Launch
public import proofs.«01_k».proof.Proof.Pool
public import Idealize.ShloMosaic.Lib.StableHlo.RunRead

/-!
# The pooled rows, one array per cycle length

Six arrays of rows taken from the edge representation and summed over the cycle, joined into one of 30000
rows: row `5000 * s + t` is row `t` of the array of length `s + 3`.
-/

@[expose] public section
set_option maxRecDepth 16384
noncomputable section
open Idealize.ShloMosaic Idealize.ShloMosaic.TcCoe Idealize.SL.Sem
namespace Cert.KernelIdeal.Value
open Cert.KernelIdeal Cert.KernelIdeal.Gen Cert.Algebra

/-- The rows taken for cycles of length 3. -/
def take3 (x : FVec Ideal S320000x128 .f32) (w : IVec S5000x3 32) : FVec Ideal S5000x3x128 .f32 :=
  Pool.taken bcast_S_S5000x3 bcast_S5000x3_S5000x3x1_0_1 bcast_S_S5000x3x1 bcast_S1_S1x1x1_2 bcast_S1x1x1_S5000x3x1_0_1_2
    reducesTo_S5000x3x1_S5000x3_d2 h_S_ bcast_S5000x3_S5000x3x128_0_1 bcast_S_S5000x3x128
    gather_S320000x128_S5000x3x1_S5000x3x128_2_0_n_n_0_2_1128 x w

/-- The pooled rows of cycles of length 3. -/
def pool3 (x : FVec Ideal S320000x128 .f32) (w : IVec S5000x3 32) : FVec Ideal S5000x128 .f32 :=
  Pool.summed reducesTo_S5000x3x128_S5000x128_d1 h_S_ (take3 x w)

/-- With the words in range and the table real, the pooled rows are real. -/
theorem pool3_real (x : FVec Ideal S320000x128 .f32) (w : IVec S5000x3 32) (hx : ∀ j, IsReal (x j))
    (hw : ∀ j, 0 ≤ (w j).toInt ∧ (w j).toInt < 320000) (j : S5000x128.Idx) : IsReal (pool3 x w j) :=
  Pool.summed_real _ _ _ (Pool.taken_real _ _ _ _ _ _ _ _ _ _ x w hx hw) j

/-- The rows taken for cycles of length 4. -/
def take4 (x : FVec Ideal S320000x128 .f32) (w : IVec S5000x4 32) : FVec Ideal S5000x4x128 .f32 :=
  Pool.taken bcast_S_S5000x4 bcast_S5000x4_S5000x4x1_0_1 bcast_S_S5000x4x1 bcast_S1_S1x1x1_2 bcast_S1x1x1_S5000x4x1_0_1_2
    reducesTo_S5000x4x1_S5000x4_d2 h_S_ bcast_S5000x4_S5000x4x128_0_1 bcast_S_S5000x4x128
    gather_S320000x128_S5000x4x1_S5000x4x128_2_0_n_n_0_2_1128 x w

/-- The pooled rows of cycles of length 4. -/
def pool4 (x : FVec Ideal S320000x128 .f32) (w : IVec S5000x4 32) : FVec Ideal S5000x128 .f32 :=
  Pool.summed reducesTo_S5000x4x128_S5000x128_d1 h_S_ (take4 x w)

/-- With the words in range and the table real, the pooled rows are real. -/
theorem pool4_real (x : FVec Ideal S320000x128 .f32) (w : IVec S5000x4 32) (hx : ∀ j, IsReal (x j))
    (hw : ∀ j, 0 ≤ (w j).toInt ∧ (w j).toInt < 320000) (j : S5000x128.Idx) : IsReal (pool4 x w j) :=
  Pool.summed_real _ _ _ (Pool.taken_real _ _ _ _ _ _ _ _ _ _ x w hx hw) j

/-- The rows taken for cycles of length 5. -/
def take5 (x : FVec Ideal S320000x128 .f32) (w : IVec S5000x5 32) : FVec Ideal S5000x5x128 .f32 :=
  Pool.taken bcast_S_S5000x5 bcast_S5000x5_S5000x5x1_0_1 bcast_S_S5000x5x1 bcast_S1_S1x1x1_2 bcast_S1x1x1_S5000x5x1_0_1_2
    reducesTo_S5000x5x1_S5000x5_d2 h_S_ bcast_S5000x5_S5000x5x128_0_1 bcast_S_S5000x5x128
    gather_S320000x128_S5000x5x1_S5000x5x128_2_0_n_n_0_2_1128 x w

/-- The pooled rows of cycles of length 5. -/
def pool5 (x : FVec Ideal S320000x128 .f32) (w : IVec S5000x5 32) : FVec Ideal S5000x128 .f32 :=
  Pool.summed reducesTo_S5000x5x128_S5000x128_d1 h_S_ (take5 x w)

/-- With the words in range and the table real, the pooled rows are real. -/
theorem pool5_real (x : FVec Ideal S320000x128 .f32) (w : IVec S5000x5 32) (hx : ∀ j, IsReal (x j))
    (hw : ∀ j, 0 ≤ (w j).toInt ∧ (w j).toInt < 320000) (j : S5000x128.Idx) : IsReal (pool5 x w j) :=
  Pool.summed_real _ _ _ (Pool.taken_real _ _ _ _ _ _ _ _ _ _ x w hx hw) j

/-- The rows taken for cycles of length 6. -/
def take6 (x : FVec Ideal S320000x128 .f32) (w : IVec S5000x6 32) : FVec Ideal S5000x6x128 .f32 :=
  Pool.taken bcast_S_S5000x6 bcast_S5000x6_S5000x6x1_0_1 bcast_S_S5000x6x1 bcast_S1_S1x1x1_2 bcast_S1x1x1_S5000x6x1_0_1_2
    reducesTo_S5000x6x1_S5000x6_d2 h_S_ bcast_S5000x6_S5000x6x128_0_1 bcast_S_S5000x6x128
    gather_S320000x128_S5000x6x1_S5000x6x128_2_0_n_n_0_2_1128 x w

/-- The pooled rows of cycles of length 6. -/
def pool6 (x : FVec Ideal S320000x128 .f32) (w : IVec S5000x6 32) : FVec Ideal S5000x128 .f32 :=
  Pool.summed reducesTo_S5000x6x128_S5000x128_d1 h_S_ (take6 x w)

/-- With the words in range and the table real, the pooled rows are real. -/
theorem pool6_real (x : FVec Ideal S320000x128 .f32) (w : IVec S5000x6 32) (hx : ∀ j, IsReal (x j))
    (hw : ∀ j, 0 ≤ (w j).toInt ∧ (w j).toInt < 320000) (j : S5000x128.Idx) : IsReal (pool6 x w j) :=
  Pool.summed_real _ _ _ (Pool.taken_real _ _ _ _ _ _ _ _ _ _ x w hx hw) j

/-- The rows taken for cycles of length 7. -/
def take7 (x : FVec Ideal S320000x128 .f32) (w : IVec S5000x7 32) : FVec Ideal S5000x7x128 .f32 :=
  Pool.taken bcast_S_S5000x7 bcast_S5000x7_S5000x7x1_0_1 bcast_S_S5000x7x1 bcast_S1_S1x1x1_2 bcast_S1x1x1_S5000x7x1_0_1_2
    reducesTo_S5000x7x1_S5000x7_d2 h_S_ bcast_S5000x7_S5000x7x128_0_1 bcast_S_S5000x7x128
    gather_S320000x128_S5000x7x1_S5000x7x128_2_0_n_n_0_2_1128 x w

/-- The pooled rows of cycles of length 7. -/
def pool7 (x : FVec Ideal S320000x128 .f32) (w : IVec S5000x7 32) : FVec Ideal S5000x128 .f32 :=
  Pool.summed reducesTo_S5000x7x128_S5000x128_d1 h_S_ (take7 x w)

/-- With the words in range and the table real, the pooled rows are real. -/
theorem pool7_real (x : FVec Ideal S320000x128 .f32) (w : IVec S5000x7 32) (hx : ∀ j, IsReal (x j))
    (hw : ∀ j, 0 ≤ (w j).toInt ∧ (w j).toInt < 320000) (j : S5000x128.Idx) : IsReal (pool7 x w j) :=
  Pool.summed_real _ _ _ (Pool.taken_real _ _ _ _ _ _ _ _ _ _ x w hx hw) j

/-- The rows taken for cycles of length 8. -/
def take8 (x : FVec Ideal S320000x128 .f32) (w : IVec S5000x8 32) : FVec Ideal S5000x8x128 .f32 :=
  Pool.taken bcast_S_S5000x8 bcast_S5000x8_S5000x8x1_0_1 bcast_S_S5000x8x1 bcast_S1_S1x1x1_2 bcast_S1x1x1_S5000x8x1_0_1_2
    reducesTo_S5000x8x1_S5000x8_d2 h_S_ bcast_S5000x8_S5000x8x128_0_1 bcast_S_S5000x8x128
    gather_S320000x128_S5000x8x1_S5000x8x128_2_0_n_n_0_2_1128 x w

/-- The pooled rows of cycles of length 8. -/
def pool8 (x : FVec Ideal S320000x128 .f32) (w : IVec S5000x8 32) : FVec Ideal S5000x128 .f32 :=
  Pool.summed reducesTo_S5000x8x128_S5000x128_d1 h_S_ (take8 x w)

/-- With the words in range and the table real, the pooled rows are real. -/
theorem pool8_real (x : FVec Ideal S320000x128 .f32) (w : IVec S5000x8 32) (hx : ∀ j, IsReal (x j))
    (hw : ∀ j, 0 ≤ (w j).toInt ∧ (w j).toInt < 320000) (j : S5000x128.Idx) : IsReal (pool8 x w j) :=
  Pool.summed_real _ _ _ (Pool.taken_real _ _ _ _ _ _ _ _ _ _ x w hx hw) j

/-- The six arrays, joined along the rows. -/
def joined (x : (s : Fin 6) → FVec Ideal S5000x128 .f32) : FVec Ideal S30000x128 .f32 :=
  concatenate S30000x128 0 [⟨S5000x128, x 0⟩, ⟨S5000x128, x 1⟩, ⟨S5000x128, x 2⟩, ⟨S5000x128, x 3⟩, ⟨S5000x128, x 4⟩, ⟨S5000x128, x 5⟩]
    concatenates_S5000x128_S5000x128_S5000x128_S5000x128_S5000x128_S5000x128_S30000x128_d0

/-- Row `5000 * s + t` of the joined array is row `t` of array `s`. -/
theorem joined_at (x : (s : Fin 6) → FVec Ideal S5000x128 .f32) (r : Fin 30000) (l : Fin 128) :
    joined x (ix2 r l) = x ⟨r.val / 5000, by omega⟩ (ix2 (⟨r.val % 5000, by omega⟩ : Fin 5000) l) := by
  have h (s : Fin 6) (t : Fin 5000) (e : r.val = 5000 * s.val + t.val) :
      x s (ix2 t l) = x ⟨r.val / 5000, by omega⟩ (ix2 (⟨r.val % 5000, by omega⟩ : Fin 5000) l) := by
    have e1 : (⟨r.val / 5000, by omega⟩ : Fin 6) = s := Fin.ext (by show r.val / 5000 = s.val; omega)
    have e2 : (⟨r.val % 5000, by omega⟩ : Fin 5000) = t := Fin.ext (by show r.val % 5000 = t.val; omega)
    rw [e1, e2]
  pointwise [joined]
  by_cases h0 : r.val < 5000
  · rw [dif_pos h0]
    exact h 0 ⟨r.val, h0⟩ (by show r.val = 5000 * 0 + (r.val); omega)
  rw [dif_neg h0]
  by_cases h1 : r.val - 5000 < 5000
  · rw [dif_pos h1]
    exact h 1 ⟨r.val - 5000, h1⟩ (by show r.val = 5000 * 1 + (r.val - 5000); omega)
  rw [dif_neg h1]
  by_cases h2 : r.val - 5000 - 5000 < 5000
  · rw [dif_pos h2]
    exact h 2 ⟨r.val - 5000 - 5000, h2⟩ (by show r.val = 5000 * 2 + (r.val - 5000 - 5000); omega)
  rw [dif_neg h2]
  by_cases h3 : r.val - 5000 - 5000 - 5000 < 5000
  · rw [dif_pos h3]
    exact h 3 ⟨r.val - 5000 - 5000 - 5000, h3⟩ (by show r.val = 5000 * 3 + (r.val - 5000 - 5000 - 5000); omega)
  rw [dif_neg h3]
  by_cases h4 : r.val - 5000 - 5000 - 5000 - 5000 < 5000
  · rw [dif_pos h4]
    exact h 4 ⟨r.val - 5000 - 5000 - 5000 - 5000, h4⟩ (by show r.val = 5000 * 4 + (r.val - 5000 - 5000 - 5000 - 5000); omega)
  rw [dif_neg h4]
  exact h 5 ⟨r.val - 5000 - 5000 - 5000 - 5000 - 5000, by omega⟩ (by show r.val = 5000 * 5 + (r.val - 5000 - 5000 - 5000 - 5000 - 5000); omega)

/-- The pooled rows of all six lengths. -/
def pools (x : FVec Ideal S320000x128 .f32) (w3 : IVec S5000x3 32) (w4 : IVec S5000x4 32) (w5 : IVec S5000x5 32)
    (w6 : IVec S5000x6 32) (w7 : IVec S5000x7 32) (w8 : IVec S5000x8 32) : (s : Fin 6) → FVec Ideal S5000x128 .f32 :=
  ![pool3 x w3, pool4 x w4, pool5 x w5, pool6 x w6, pool7 x w7, pool8 x w8]

variable (U : Valuation τ sig (Elt Ideal))

/-- What the stretch for length 3 takes. -/
theorem after_take3 : StableHlo.after hostOps0_1 U (Proc.devRef .tc main_v4) =
    take3 (U (Proc.devRef .tc main_arg0)) (U (Proc.devRef .tc main_arg2)) := by
  after_reads_simp
  simp only [StableHlo.TRef.toBuf, StableHlo.TRef.ofBuf, cast_eq]
  rfl

/-- And its sum. -/
theorem after_sum3 : StableHlo.after hostOps0_2 U (Proc.devRef .tc main_v5) =
    Pool.summed (so := S5000x128) reducesTo_S5000x3x128_S5000x128_d1 h_S_ (U (Proc.devRef .tc main_v4)) := by
  after_reads_simp
  rfl

/-- What the stretch for length 4 takes. -/
theorem after_take4 : StableHlo.after hostOps0_3 U (Proc.devRef .tc main_v6) =
    take4 (U (Proc.devRef .tc main_arg0)) (U (Proc.devRef .tc main_arg3)) := by
  after_reads_simp
  simp only [StableHlo.TRef.toBuf, StableHlo.TRef.ofBuf, cast_eq]
  rfl

/-- And its sum. -/
theorem after_sum4 : StableHlo.after hostOps0_4 U (Proc.devRef .tc main_v7) =
    Pool.summed (so := S5000x128) reducesTo_S5000x4x128_S5000x128_d1 h_S_ (U (Proc.devRef .tc main_v6)) := by
  after_reads_simp
  rfl

/-- What the stretch for length 5 takes. -/
theorem after_take5 : StableHlo.after hostOps0_5 U (Proc.devRef .tc main_v8) =
    take5 (U (Proc.devRef .tc main_arg0)) (U (Proc.devRef .tc main_arg4)) := by
  after_reads_simp
  simp only [StableHlo.TRef.toBuf, StableHlo.TRef.ofBuf, cast_eq]
  rfl

/-- And its sum. -/
theorem after_sum5 : StableHlo.after hostOps0_6 U (Proc.devRef .tc main_v9) =
    Pool.summed (so := S5000x128) reducesTo_S5000x5x128_S5000x128_d1 h_S_ (U (Proc.devRef .tc main_v8)) := by
  after_reads_simp
  rfl

/-- What the stretch for length 6 takes. -/
theorem after_take6 : StableHlo.after hostOps0_7 U (Proc.devRef .tc main_v10) =
    take6 (U (Proc.devRef .tc main_arg0)) (U (Proc.devRef .tc main_arg5)) := by
  after_reads_simp
  simp only [StableHlo.TRef.toBuf, StableHlo.TRef.ofBuf, cast_eq]
  rfl

/-- And its sum. -/
theorem after_sum6 : StableHlo.after hostOps0_8 U (Proc.devRef .tc main_v11) =
    Pool.summed (so := S5000x128) reducesTo_S5000x6x128_S5000x128_d1 h_S_ (U (Proc.devRef .tc main_v10)) := by
  after_reads_simp
  rfl

/-- What the stretch for length 7 takes. -/
theorem after_take7 : StableHlo.after hostOps0_9 U (Proc.devRef .tc main_v12) =
    take7 (U (Proc.devRef .tc main_arg0)) (U (Proc.devRef .tc main_arg6)) := by
  after_reads_simp
  simp only [StableHlo.TRef.toBuf, StableHlo.TRef.ofBuf, cast_eq]
  rfl

/-- And its sum. -/
theorem after_sum7 : StableHlo.after hostOps0_10 U (Proc.devRef .tc main_v13) =
    Pool.summed (so := S5000x128) reducesTo_S5000x7x128_S5000x128_d1 h_S_ (U (Proc.devRef .tc main_v12)) := by
  after_reads_simp
  rfl

/-- What the stretch for length 8 takes. -/
theorem after_take8 : StableHlo.after hostOps0_11 U (Proc.devRef .tc main_v14) =
    take8 (U (Proc.devRef .tc main_arg0)) (U (Proc.devRef .tc main_arg7)) := by
  after_reads_simp
  simp only [StableHlo.TRef.toBuf, StableHlo.TRef.ofBuf, cast_eq]
  rfl

/-- The last sum, and the six joined. -/
theorem after_join : StableHlo.after hostOps0_12 U (Proc.devRef .tc main_v16) =
    joined ![U (Proc.devRef .tc main_v5), U (Proc.devRef .tc main_v7), U (Proc.devRef .tc main_v9), U (Proc.devRef .tc main_v11),
      U (Proc.devRef .tc main_v13),
      Pool.summed (so := S5000x128) reducesTo_S5000x8x128_S5000x128_d1 h_S_ (U (Proc.devRef .tc main_v14))] := by
  after_reads_simp
  rfl

/-- The rows of the first weight that meet the cycle representation. -/
theorem after_w1a (k : Fin 128) (l : Fin 256) :
    (StableHlo.after hostOps0 U (Proc.devRef .tc main_v0) : S128x256.Idx → EReal) (ix2 k l) =
      (U (Proc.devRef .tc main_arg9) : S384x256.Idx → EReal) (ix2 (⟨k.val, by omega⟩ : Fin 384) l) := by
  after_reads_simp
  pointwise

/-- The mixing weights of both channels, met with the rest of the first weight. -/
def mix (aut : FVec Ideal S2x6x128x128 .f32) (w : FVec Ideal S384x256 .f32) (s : Fin 6) (k : Fin 128) (l : Fin 256) : EReal :=
  ∑ c : Fin 2, ∑ d : Fin 128, aut (ix4 c s k d) * w (ix2 (⟨128 + (c.val * 128 + d.val), by omega⟩ : Fin 384) l)

/-- What the kernel's host makes of them before the first region. -/
theorem after_mix (s : Fin 6) (k : Fin 128) (l : Fin 256) :
    (StableHlo.after hostOps0 U (Proc.devRef .tc main_v3) : S6x128x256.Idx → EReal) (ix3 s k l) =
      mix (U (Proc.devRef .tc main_arg8)) (U (Proc.devRef .tc main_arg9)) s k l := by
  after_reads_simp
  pointwise [mix]

end Cert.KernelIdeal.Value

end
-- ==== Proof.KernelSpread.lean ====
module

public import proofs.«01_k».proof.Proof.Gen.KernelIdeal.Launch
public import proofs.«01_k».proof.Proof.Pool
public import Idealize.ShloMosaic.Lib.StableHlo.RunRead

/-!
# The cycle rows added back onto the edges

Every cycle row is repeated once for each edge the cycle names, and the repeats are added into an array of edge
rows at the named rows, one cycle length after another.
-/

@[expose] public section
set_option maxRecDepth 16384
noncomputable section
open Idealize.ShloMosaic Idealize.ShloMosaic.TcCoe Idealize.SL.Sem
namespace Cert.KernelIdeal.Value
open Cert.KernelIdeal Cert.KernelIdeal.Gen Cert.Algebra

/-- The rows of the cycles of length 3 added into `x` at the edges `w` names. -/
def put3 (x : FVec Ideal S320000x128 .f32) (y : FVec Ideal S30000x128 .f32) (w : IVec S5000x3 32) : FVec Ideal S320000x128 .f32 :=
  Host.scatterAdd scatter_S320000x128_S15000x1_S15000x128_1_0_0_1 x
    (Pool.words bcast_S_S15000 bcast_S15000_S15000x1_0 (shapeCast S15000 w shapeCasts_S5000x3_S15000))
    (shapeCast S15000x128 (broadcastInDim S5000x3x128 ![0, 2] bcast_S5000x128_S5000x3x128_0_2
      (extractStridedSlice S5000x128 ![0, 0] y slices_S30000x128_S5000x128_0_0)) shapeCasts_S5000x3x128_S15000x128)

/-- The rows of the cycles of length 4 added into `x` at the edges `w` names. -/
def put4 (x : FVec Ideal S320000x128 .f32) (y : FVec Ideal S30000x128 .f32) (w : IVec S5000x4 32) : FVec Ideal S320000x128 .f32 :=
  Host.scatterAdd scatter_S320000x128_S20000x1_S20000x128_1_0_0_1 x
    (Pool.words bcast_S_S20000 bcast_S20000_S20000x1_0 (shapeCast S20000 w shapeCasts_S5000x4_S20000))
    (shapeCast S20000x128 (broadcastInDim S5000x4x128 ![0, 2] bcast_S5000x128_S5000x4x128_0_2
      (extractStridedSlice S5000x128 ![5000, 0] y slices_S30000x128_S5000x128_5000_0)) shapeCasts_S5000x4x128_S20000x128)

/-- The rows of the cycles of length 5 added into `x` at the edges `w` names. -/
def put5 (x : FVec Ideal S320000x128 .f32) (y : FVec Ideal S30000x128 .f32) (w : IVec S5000x5 32) : FVec Ideal S320000x128 .f32 :=
  Host.scatterAdd scatter_S320000x128_S25000x1_S25000x128_1_0_0_1 x
    (Pool.words bcast_S_S25000 bcast_S25000_S25000x1_0 (shapeCast S25000 w shapeCasts_S5000x5_S25000))
    (shapeCast S25000x128 (broadcastInDim S5000x5x128 ![0, 2] bcast_S5000x128_S5000x5x128_0_2
      (extractStridedSlice S5000x128 ![10000, 0] y slices_S30000x128_S5000x128_10000_0)) shapeCasts_S5000x5x128_S25000x128)

/-- The rows of the cycles of length 6 added into `x` at the edges `w` names. -/
def put6 (x : FVec Ideal S320000x128 .f32) (y : FVec Ideal S30000x128 .f32) (w : IVec S5000x6 32) : FVec Ideal S320000x128 .f32 :=
  Host.scatterAdd scatter_S320000x128_S30000x1_S30000x128_1_0_0_1 x
    (Pool.words bcast_S_S30000 bcast_S30000_S30000x1_0 (shapeCast S30000 w shapeCasts_S5000x6_S30000))
    (shapeCast S30000x128 (broadcastInDim S5000x6x128 ![0, 2] bcast_S5000x128_S5000x6x128_0_2
      (extractStridedSlice S5000x128 ![15000, 0] y slices_S30000x128_S5000x128_15000_0)) shapeCasts_S5000x6x128_S30000x128)

/-- The rows of the cycles of length 7 added into `x` at the edges `w` names. -/
def put7 (x : FVec Ideal S320000x128 .f32) (y : FVec Ideal S30000x128 .f32) (w : IVec S5000x7 32) : FVec Ideal S320000x128 .f32 :=
  Host.scatterAdd scatter_S320000x128_S35000x1_S35000x128_1_0_0_1 x
    (Pool.words bcast_S_S35000 bcast_S35000_S35000x1_0 (shapeCast S35000 w shapeCasts_S5000x7_S35000))
    (shapeCast S35000x128 (broadcastInDim S5000x7x128 ![0, 2] bcast_S5000x128_S5000x7x128_0_2
      (extractStridedSlice S5000x128 ![20000, 0] y slices_S30000x128_S5000x128_20000_0)) shapeCasts_S5000x7x128_S35000x128)

/-- The rows of the cycles of length 8 added into `x` at the edges `w` names. -/
def put8 (x : FVec Ideal S320000x128 .f32) (y : FVec Ideal S30000x128 .f32) (w : IVec S5000x8 32) : FVec Ideal S320000x128 .f32 :=
  Host.scatterAdd scatter_S320000x128_S40000x1_S40000x128_1_0_0_1 x
    (Pool.words bcast_S_S40000 bcast_S40000_S40000x1_0 (shapeCast S40000 w shapeCasts_S5000x8_S40000))
    (shapeCast S40000x128 (broadcastInDim S5000x8x128 ![0, 2] bcast_S5000x128_S5000x8x128_0_2
      (extractStridedSlice S5000x128 ![25000, 0] y slices_S30000x128_S5000x128_25000_0)) shapeCasts_S5000x8x128_S40000x128)

/-- The cycle rows `y` added onto the edges, all six lengths. -/
def spread (y : FVec Ideal S30000x128 .f32) (w3 : IVec S5000x3 32) (w4 : IVec S5000x4 32) (w5 : IVec S5000x5 32)
    (w6 : IVec S5000x6 32) (w7 : IVec S5000x7 32) (w8 : IVec S5000x8 32) : FVec Ideal S320000x128 .f32 :=
  put8 (put7 (put6 (put5 (put4 (put3 (broadcastInDim S320000x128 ![] bcast_S_S320000x128
    (constant (F := Ideal) S_ .f32 0x00000000#32)) y w3) y w4) y w5) y w6) y w7) y w8

variable (U : Valuation τ sig (Elt Ideal))

set_option maxHeartbeats 2000000 in
/-- What the host stretch between the two halves makes of the cycle rows. -/
theorem after_spread : StableHlo.after hostOps3 U (Proc.devRef .tc main_v124) =
    spread (U (Proc.devRef .tc main_v57)) (U (Proc.devRef .tc main_arg2)) (U (Proc.devRef .tc main_arg3))
      (U (Proc.devRef .tc main_arg4)) (U (Proc.devRef .tc main_arg5)) (U (Proc.devRef .tc main_arg6))
      (U (Proc.devRef .tc main_arg7)) := by
  after_reads_simp
  rfl

/-- The rows of the edge half's first weight that meet the edge representation. -/
theorem after_ew1a (k : Fin 128) (l : Fin 256) :
    (StableHlo.after hostOps3 U (Proc.devRef .tc main_v125) : S128x256.Idx → EReal) (ix2 k l) =
      (U (Proc.devRef .tc main_arg15) : S256x256.Idx → EReal) (ix2 (⟨k.val, by omega⟩ : Fin 256) l) := by
  after_reads_simp
  pointwise

/-- The rows that meet the sums of cycle rows. -/
theorem after_ew1b (k : Fin 128) (l : Fin 256) :
    (StableHlo.after hostOps3 U (Proc.devRef .tc main_v126) : S128x256.Idx → EReal) (ix2 k l) =
      (U (Proc.devRef .tc main_arg15) : S256x256.Idx → EReal) (ix2 (⟨128 + k.val, by omega⟩ : Fin 256) l) := by
  after_reads_simp
  pointwise

end Cert.KernelIdeal.Value

end
-- ==== Proof.Region0.lean ====
/-
  The values of the cycle half's first pass: after the last grid point the statistics block holds the column sums and
  the column sums of squares of the first layer over all 30000 rows.
-/
module

public import proofs.«01_k».proof.Proof.Gen.KernelIdeal.Frame.Region0
public import proofs.«01_k».proof.Proof.TwoRows
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0]
    ∧ win0_3.index t = ![t.val / 5, 0, 0] ∧ win0_4.index t = ![0, 0] :=
  (by decide +kernel : ∀ t : Fin grid0.N, _)

/-- The block's first layer. -/
theorem pay0_1 (x0 x1 : FVec Ideal S1000x128 .f32) (A : FVec Ideal S128x256 .f32) (M : FVec Ideal S1x128x256 .f32)
    (r : Fin 1000) (l : Fin 256) : k0_pay1 (F := Ideal) x0 A x1 M (ix2 r l)
      = (∑ k : Fin 128, x0 (ix2 r k) * A (ix2 k l)) + ∑ k : Fin 128, x1 (ix2 r k) * M (ix3 0 k l) := by
  pointwise [k0_pay1]

theorem pay0_2 (j : S2x256.Idx) : k0_pay2 (F := Ideal) j = 0 := by
  pointwise [k0_pay2]

theorem pay0_3 (x0 x1 : FVec Ideal S1000x128 .f32) (A : FVec Ideal S128x256 .f32) (M : FVec Ideal S1x128x256 .f32)
    (acc : FVec Ideal S1x256 .f32) (l : Fin 256) : k0_pay3 (F := Ideal) x0 A x1 M acc (ix2 0 l)
      = acc (ix2 0 l) + ∑ r : Fin 1000, k0_pay1 (F := Ideal) x0 A x1 M (ix2 r l) := by
  pointwise [k0_pay3]

theorem pay0_4 (x0 x1 : FVec Ideal S1000x128 .f32) (A : FVec Ideal S128x256 .f32) (M : FVec Ideal S1x128x256 .f32)
    (acc : FVec Ideal S1x256 .f32) (l : Fin 256) : k0_pay4 (F := Ideal) x0 A x1 M acc (ix2 0 l)
      = acc (ix2 0 l) + ∑ r : Fin 1000, k0_pay1 (F := Ideal) x0 A x1 M (ix2 r l) * k0_pay1 (F := Ideal) x0 A x1 M (ix2 r l) := by
  pointwise [k0_pay4]

/-- The block's rows of the first layer, at a point. -/
def blockY0 (c : Dev nD) (t : Fin cfg0.N) (r : Fin 1000) (l : Fin 256) : EReal :=
  k0_pay1 (F := Ideal) (iblk0 V c 0 t) (iblk0 V c 2 t) (iblk0 V c 1 t) (iblk0 V c 3 t) (ix2 r l)

attribute [local irreducible] k0_pay1 k0_pay2 k0_pay3 k0_pay4

theorem outs0_A (c : Dev nD) (t : Fin cfg0.N) (h : t.val % 30 = 0) (j : S2x256.Idx) :
    (outsAt0 V c t.val t.isLt : S2x256.Idx → EReal) j = 0 + stats (blockY0 V c t) (j 0) (j 1) := by
  obtain ⟨r, l, rfl⟩ : ∃ (r : Fin 2) (l : Fin 256), j = ix2 r l := ⟨j 0, j 1, by funext a; fin_cases a <;> rfl⟩
  rw [outsAt0_A V c t h]
  frame_out
  exact first_stats (n := 256) (ms0_4 t).view _ _ _ _ _ _ _ pay0_2 (pay0_3 _ _ _ _) (pay0_4 _ _ _ _) r l

theorem outs0_B (c : Dev nD) (t : Fin cfg0.N) (h : ¬ t.val % 30 = 0) (j : S2x256.Idx) :
    (outsAt0 V c t.val t.isLt : S2x256.Idx → EReal) j
      = (outsAt0 V c (t.val - 1) (Nat.lt_of_le_of_lt (Nat.sub_le _ _) t.isLt) : S2x256.Idx → EReal) j + stats (blockY0 V c t) (j 0) (j 1) := by
  obtain ⟨r, l, rfl⟩ : ∃ (r : Fin 2) (l : Fin 256), j = ix2 r l := ⟨j 0, j 1, by funext a; fin_cases a <;> rfl⟩
  rw [outsAt0_B V c t h]
  frame_out
  exact step_stats (n := 256) _ _ _ _ _ _ (pay0_3 _ _ _ _) (pay0_4 _ _ _ _) r l

/-- A block's row is the array's row at the block's place. -/
theorem blockY0_eq (c : Dev nD) (t : Fin cfg0.N) (r : Fin 1000) (hl : t.val * 1000 + r.val < 30000) (l : Fin 256) :
    blockY0 V c t r l = cycY (V c main_arg1) (V c main_v16) (V c main_v0) (V c main_v3) ⟨t.val * 1000 + r.val, hl⟩ l := by
  unfold blockY0 cycY
  rw [pay0_1]
  blk_point [iblk0, idx0 t]

theorem final0 (c : Dev nD) : (dat0 V c).arrAt 4 cfg0.N
    = fun j : S2x256.Idx => stats (cycY (V c main_arg1) (V c main_v16) (V c main_v0) (V c main_v3)) (j 0) (j 1) := by
  refine (dat0 V c).arrAt_eq_of_covers 4 _ (by decide +kernel) fun t hf y => ?_
  blk_simp
  have hr := (flush0_4 t).mp hf
  rw [after0_4]
  refine (Pipeline.eq_sum_fin_of_reset_step_apply_of_flush (M := EReal) (ι := S2x256.Idx) (fun n h => outsAt0 V c n h) 30 (fun _ => 0)
    (fun t j => stats (blockY0 V c t) (j 0) (j 1)) (outs0_A V c) (outs0_B V c) t hr y).trans ?_
  rw [zero_add]
  have ht : t.val / 30 = 0 := by have : t.val < 30 := lt_of_lt_of_eq t.isLt (show cfg0.N = 30 from N_0); omega
  refine (stats_tiles (J := 30) (T := 1000) (n := 30000) rfl
    (fun s : Fin 30 => blockY0 V c ⟨30 * (t.val / 30) + s.val, Pipeline.run_point_lt_of_flush t hr s⟩)
    (cycY (V c main_arg1) (V c main_v16) (V c main_v0) (V c main_v3)) (fun s r hl l => ?_) _ _).trans ?_
  · rw [blockY0_eq V c _ r (by show (30 * (t.val / 30) + s.val) * 1000 + r.val < 30000; rw [ht]; omega) l]
    congr 1
    apply Fin.ext
    show (30 * (t.val / 30) + s.val) * 1000 + r.val = s.val * 1000 + r.val
    rw [ht]; omega
  · congr 1 <;> apply Fin.ext <;> blk_simp [idx0 t] <;> omega
end Cert.KernelIdeal.Value
-- ==== Proof.Region1.lean ====
/-
  The values of the cycle half's second pass: every point leaves its rows of the second layer in the output block, and
  after the last grid point the statistics block holds the column sums and the column sums of squares of the second
  layer over all 30000 rows.
-/
module

public import proofs.«01_k».proof.Proof.Gen.KernelIdeal.Frame.Region1
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

theorem idx1 : ∀ t : Fin cfg1.N, win1_0.index t = ![t.val, 0] ∧ win1_1.index t = ![t.val, 0] ∧ win1_2.index t = ![0, 0]
    ∧ win1_3.index t = ![t.val / 5, 0, 0] ∧ win1_4.index t = ![0, 0] ∧ win1_5.index t = ![0, 0] ∧ win1_6.index t = ![t.val, 0]
    ∧ win1_7.index t = ![0, 0] :=
  (by decide +kernel : ∀ t : Fin grid1.N, _)

/-- The block's second layer. -/
theorem pay1_3 (x0 x1 : FVec Ideal S1000x128 .f32) (A : FVec Ideal S128x256 .f32) (M : FVec Ideal S1x128x256 .f32)
    (s0 s1 : FVec Ideal S1x256 .f32) (W : FVec Ideal S256x128 .f32) (r : Fin 1000) (l : Fin 128) :
    k1_pay3 (F := Ideal) x0 A x1 M s0 s1 W (ix2 r l)
      = ∑ k : Fin 256, max (((∑ q : Fin 128, x0 (ix2 r q) * A (ix2 q k)) + ∑ q : Fin 128, x1 (ix2 r q) * M (ix3 0 q k)) * s0 (ix2 0 k)
          + s1 (ix2 0 k)) 0 * W (ix2 k l) := by
  pointwise [k1_pay3]

theorem pay1_4 (j : S2x128.Idx) : k1_pay4 (F := Ideal) j = 0 := by
  pointwise [k1_pay4]

theorem pay1_1 (x0 x1 : FVec Ideal S1000x128 .f32) (A : FVec Ideal S128x256 .f32) (M : FVec Ideal S1x128x256 .f32)
    (s0 s1 : FVec Ideal S1x256 .f32) (W : FVec Ideal S256x128 .f32)
    (acc : FVec Ideal S1x128 .f32) (l : Fin 128) : k1_pay1 (F := Ideal) (k1_pay5 acc) (k1_pay6 x0 A x1 M s0 s1 W) (ix2 0 l)
      = acc (ix2 0 l) + ∑ r : Fin 1000, k1_pay3 (F := Ideal) x0 A x1 M s0 s1 W (ix2 r l) := by
  pointwise [k1_pay1, k1_pay5, k1_pay6]

theorem pay1_2 (Y : FVec Ideal S1000x128 .f32) (acc : FVec Ideal S1x128 .f32) (l : Fin 128) : k1_pay2 (F := Ideal) Y acc (ix2 0 l)
      = acc (ix2 0 l) + ∑ r : Fin 1000, Y (ix2 r l) * Y (ix2 r l) := by
  pointwise [k1_pay2]

/-- The second layer's rows the body computes from the block's inputs. -/
abbrev payZ1 (c : Dev nD) (t : Fin cfg1.N) : FVec Ideal S1000x128 .f32 :=
  k1_pay3 (F := Ideal) (iblk1 V c 0 t) (iblk1 V c 2 t) (iblk1 V c 1 t) (iblk1 V c 3 t)
    (View.ld (iblk1 V c 4 t) (Rect.unit (s := S2x256) ![0, 0] ![1, 256] inb_S2x256_S1x256_0_0))
    (View.ld (iblk1 V c 4 t) (Rect.unit (s := S2x256) ![1, 0] ![1, 256] inb_S2x256_S1x256_1_0)) (iblk1 V c 5 t)

/-- The block's rows of the second layer, at a point. -/
def blockZ1 (c : Dev nD) (t : Fin cfg1.N) (r : Fin 1000) (l : Fin 128) : EReal := payZ1 V c t (ix2 r l)

/-- A block's row is the array's row at the block's place. -/
theorem blockZ1_eq (c : Dev nD) (t : Fin cfg1.N) (r : Fin 1000) (hl : t.val * 1000 + r.val < 30000) (l : Fin 128) :
    blockZ1 V c t r l = second (cycY (V c main_arg1) (V c main_v16) (V c main_v0) (V c main_v3)) (V c main_v36) (V c main_arg12)
      ⟨t.val * 1000 + r.val, hl⟩ l := by
  unfold blockZ1 second cycY payZ1
  rw [pay1_3]
  have e0 : ∀ k : Fin 256, View.ld (iblk1 V c 4 t) (Rect.unit (s := S2x256) ![0, 0] ![1, 256] inb_S2x256_S1x256_0_0) (ix2 0 k : S1x256.Idx)
      = iblk1 V c 4 t (ix2 0 k : S2x256.Idx) := fun k => TwoRows.ld0 (n := 256) (Val := Elt Ideal) (e := .f32) inb_S2x256_S1x256_0_0 (iblk1 V c 4 t) k
  have e1 : ∀ k : Fin 256, View.ld (iblk1 V c 4 t) (Rect.unit (s := S2x256) ![1, 0] ![1, 256] inb_S2x256_S1x256_1_0) (ix2 0 k : S1x256.Idx)
      = iblk1 V c 4 t (ix2 1 k : S2x256.Idx) := fun k => TwoRows.ld1 (n := 256) (Val := Elt Ideal) (e := .f32) inb_S2x256_S1x256_1_0 (iblk1 V c 4 t) k
  simp only [e0, e1]
  blk_point [iblk1, idx1 t]

attribute [local irreducible] k1_pay1 k1_pay2 k1_pay3 k1_pay4 k1_pay5 k1_pay6

/-- What a point leaves in the output block. -/
theorem outs1_rows (c : Dev nD) (t : Fin cfg1.N) : (outsAt1 V c t.val t.isLt).1 = payZ1 V c t := by
  by_cases h : t.val % 30 = 0
  · rw [outsAt1_A V c t h]
    frame_out
    rfl
  · rw [outsAt1_B V c t h]
    frame_out
    rfl

theorem outs1_A (c : Dev nD) (t : Fin cfg1.N) (h : t.val % 30 = 0) (j : S2x128.Idx) :
    ((outsAt1 V c t.val t.isLt).2 : S2x128.Idx → EReal) j = 0 + stats (blockZ1 V c t) (j 0) (j 1) := by
  obtain ⟨r, l, rfl⟩ : ∃ (r : Fin 2) (l : Fin 128), j = ix2 r l := ⟨j 0, j 1, by funext a; fin_cases a <;> rfl⟩
  rw [outsAt1_A V c t h]
  frame_out
  have h3 := pay1_1 (iblk1 V c 0 t) (iblk1 V c 1 t) (iblk1 V c 2 t) (iblk1 V c 3 t)
    (View.ld (iblk1 V c 4 t) (Rect.unit (s := S2x256) ![0, 0] ![1, 256] inb_S2x256_S1x256_0_0))
    (View.ld (iblk1 V c 4 t) (Rect.unit (s := S2x256) ![1, 0] ![1, 256] inb_S2x256_S1x256_1_0)) (iblk1 V c 5 t)
  unfold blockZ1 payZ1
  generalize k1_pay6 (F := Ideal) (iblk1 V c 0 t) (iblk1 V c 2 t) (iblk1 V c 1 t) (iblk1 V c 3 t)
    (View.ld (iblk1 V c 4 t) (Rect.unit (s := S2x256) ![0, 0] ![1, 256] inb_S2x256_S1x256_0_0))
    (View.ld (iblk1 V c 4 t) (Rect.unit (s := S2x256) ![1, 0] ![1, 256] inb_S2x256_S1x256_1_0)) (iblk1 V c 5 t) = S at h3 ⊢
  generalize k1_pay3 (F := Ideal) (iblk1 V c 0 t) (iblk1 V c 2 t) (iblk1 V c 1 t) (iblk1 V c 3 t)
    (View.ld (iblk1 V c 4 t) (Rect.unit (s := S2x256) ![0, 0] ![1, 256] inb_S2x256_S1x256_0_0))
    (View.ld (iblk1 V c 4 t) (Rect.unit (s := S2x256) ![1, 0] ![1, 256] inb_S2x256_S1x256_1_0)) (iblk1 V c 5 t) = Z at h3 ⊢
  generalize (ms1_7 t).view = v
  have key := first_stats (n := 128) v inb_S2x128_S1x128_1_0 inb_S2x128_S1x128_0_0 inb_S2x128_S2x128_0_0
    (fun acc => k1_pay1 (F := Ideal) (k1_pay5 acc) S) (fun acc => k1_pay2 (F := Ideal) Z acc)
    (k1_pay4 (F := Ideal)) (fun r l => Z (ix2 r l)) pay1_4 h3 (pay1_2 Z) r l
  exact key

theorem outs1_B (c : Dev nD) (t : Fin cfg1.N) (h : ¬ t.val % 30 = 0) (j : S2x128.Idx) :
    ((outsAt1 V c t.val t.isLt).2 : S2x128.Idx → EReal) j
      = ((outsAt1 V c (t.val - 1) (Nat.lt_of_le_of_lt (Nat.sub_le _ _) t.isLt)).2 : S2x128.Idx → EReal) j
        + stats (blockZ1 V c t) (j 0) (j 1) := by
  obtain ⟨r, l, rfl⟩ : ∃ (r : Fin 2) (l : Fin 128), j = ix2 r l := ⟨j 0, j 1, by funext a; fin_cases a <;> rfl⟩
  rw [outsAt1_B V c t h]
  frame_out
  have h3 := pay1_1 (iblk1 V c 0 t) (iblk1 V c 1 t) (iblk1 V c 2 t) (iblk1 V c 3 t)
    (View.ld (iblk1 V c 4 t) (Rect.unit (s := S2x256) ![0, 0] ![1, 256] inb_S2x256_S1x256_0_0))
    (View.ld (iblk1 V c 4 t) (Rect.unit (s := S2x256) ![1, 0] ![1, 256] inb_S2x256_S1x256_1_0)) (iblk1 V c 5 t)
  unfold blockZ1 payZ1
  generalize k1_pay6 (F := Ideal) (iblk1 V c 0 t) (iblk1 V c 2 t) (iblk1 V c 1 t) (iblk1 V c 3 t)
    (View.ld (iblk1 V c 4 t) (Rect.unit (s := S2x256) ![0, 0] ![1, 256] inb_S2x256_S1x256_0_0))
    (View.ld (iblk1 V c 4 t) (Rect.unit (s := S2x256) ![1, 0] ![1, 256] inb_S2x256_S1x256_1_0)) (iblk1 V c 5 t) = S at h3 ⊢
  generalize k1_pay3 (F := Ideal) (iblk1 V c 0 t) (iblk1 V c 2 t) (iblk1 V c 1 t) (iblk1 V c 3 t)
    (View.ld (iblk1 V c 4 t) (Rect.unit (s := S2x256) ![0, 0] ![1, 256] inb_S2x256_S1x256_0_0))
    (View.ld (iblk1 V c 4 t) (Rect.unit (s := S2x256) ![1, 0] ![1, 256] inb_S2x256_S1x256_1_0)) (iblk1 V c 5 t) = Z at h3 ⊢
  exact step_stats (n := 128) inb_S2x128_S1x128_1_0 inb_S2x128_S1x128_0_0
    (fun acc => k1_pay1 (F := Ideal) (k1_pay5 acc) S) (fun acc => k1_pay2 (F := Ideal) Z acc)
    _ (fun r l => Z (ix2 r l)) h3 (pay1_2 Z) r l

/-- The output rows after the run. -/
theorem final1_6 (c : Dev nD) : (dat1 V c).arrAt 6 cfg1.N
    = fun j : S30000x128.Idx => second (cycY (V c main_arg1) (V c main_v16) (V c main_v0) (V c main_v3)) (V c main_v36) (V c main_arg12) (j 0) (j 1) := by
  refine (dat1 V c).arrAt_eq_of_covers 6 _ (by decide +kernel) fun t hf y => ?_
  blk_simp
  rw [after1_6, outs1_rows]
  have ht : t.val < 30 := lt_of_lt_of_eq t.isLt (show cfg1.N = 30 from N_1)
  have hy : (y 0 : ℕ) < 1000 := (y 0).isLt
  refine (show (payZ1 V c t y : EReal) = blockZ1 V c t (y 0) (y 1) from ?_).trans ((blockZ1_eq V c t (y 0) (by omega) (y 1)).trans ?_)
  · refine congrArg (payZ1 V c t) ?_
    funext a; fin_cases a <;> rfl
  · refine congrArg₂ (second (cycY (V c main_arg1) (V c main_v16) (V c main_v0) (V c main_v3)) (V c main_v36) (V c main_arg12)) (Fin.ext ?_) (Fin.ext ?_)
    · blk_simp [idx1 t]
    · blk_simp [idx1 t]

/-- The statistics after the run. -/
theorem final1_7 (c : Dev nD) : (dat1 V c).arrAt 7 cfg1.N
    = fun j : S2x128.Idx => stats (second (cycY (V c main_arg1) (V c main_v16) (V c main_v0) (V c main_v3)) (V c main_v36) (V c main_arg12)) (j 0) (j 1) := by
  refine (dat1 V c).arrAt_eq_of_covers 7 _ (by decide +kernel) fun t hf y => ?_
  blk_simp
  have hr := (flush1_7 t).mp hf
  rw [after1_7]
  refine (Pipeline.eq_sum_fin_of_reset_step_apply_of_flush (M := EReal) (ι := S2x128.Idx) (fun n h => (outsAt1 V c n h).2) 30 (fun _ => 0)
    (fun t j => stats (blockZ1 V c t) (j 0) (j 1)) (outs1_A V c) (outs1_B V c) t hr y).trans ?_
  rw [zero_add]
  have ht : t.val / 30 = 0 := by have : t.val < 30 := lt_of_lt_of_eq t.isLt (show cfg1.N = 30 from N_1); omega
  refine (stats_tiles (J := 30) (T := 1000) (n := 30000) rfl
    (fun s : Fin 30 => blockZ1 V c ⟨30 * (t.val / 30) + s.val, Pipeline.run_point_lt_of_flush t hr s⟩)
    (second (cycY (V c main_arg1) (V c main_v16) (V c main_v0) (V c main_v3)) (V c main_v36) (V c main_arg12)) (fun s r hl l => ?_) _ _).trans ?_
  · rw [blockZ1_eq V c _ r (by show (30 * (t.val / 30) + s.val) * 1000 + r.val < 30000; rw [ht]; omega) l]
    refine congrArg (fun q => second (cycY (V c main_arg1) (V c main_v16) (V c main_v0) (V c main_v3)) (V c main_v36) (V c main_arg12) q l) (Fin.ext ?_)
    show (30 * (t.val / 30) + s.val) * 1000 + r.val = s.val * 1000 + r.val
    rw [ht]; omega
  · refine congrArg₂ (stats (second (cycY (V c main_arg1) (V c main_v16) (V c main_v0) (V c main_v3)) (V c main_v36) (V c main_arg12))) (Fin.ext ?_) (Fin.ext ?_)
    · blk_simp [idx1 t]
    · blk_simp [idx1 t]
end Cert.KernelIdeal.Value
-- ==== Proof.Region2.lean ====
/-
  The values of the two normalisation calls: every block the body stores is the scaled, shifted and clamped block it
  loaded, so the result array is the operand scaled, shifted and clamped element by element.
-/
module

public import proofs.«01_k».proof.Proof.Gen.KernelIdeal.Frame.Region2
public import proofs.«01_k».proof.Proof.Gen.KernelIdeal.Frame.Region5
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

/-- The cycle rows scaled by row 0 of `ss`, shifted by row 1, clamped below at zero. -/
def cycOut (y : FVec Ideal S30000x128 .f32) (ss : FVec Ideal S2x128 .f32) : FVec Ideal S30000x128 .f32 := fun i =>
  max (y i * ss (ix2 0 (i 1)) + ss (ix2 1 (i 1))) 0

theorem idx2 : ∀ t : Fin cfg2.N, win2_0.index t = ![t.val, 0] ∧ win2_1.index t = ![0, 0] ∧ win2_2.index t = ![t.val, 0] :=
  (by decide +kernel : ∀ t : Fin grid2.N, _)

/-- What the body leaves in the output block, at an index. -/
theorem out2_at (x0 : FVec Ideal S1000x128 .f32) (x1 : FVec Ideal S2x128 .f32) :
    out2_2 (F := Ideal) x0 x1 = fun y => max (x0 y * x1 (ix2 0 (y 1)) + x1 (ix2 1 (y 1))) 0 := by
  funext y
  frame_out
  pointwise [k2_pay1]

theorem final2 (c : Dev nD) : (dat2 V c).arrAt 2 cfg2.N = cycOut (V c main_v37_0) (V c main_v56) := by
  refine (dat2 V c).arrAt_eq_of_covers 2 _ (by decide +kernel) fun t _ y => ?_
  blk_simp
  rw [after2_2, out2_at]
  simp only [cycOut]
  blk_point [iblk2, idx2 t]

/-- The edge rows scaled by row 0 of `ss`, shifted by row 1, clamped below at zero. -/
def edgeOut (y : FVec Ideal S320000x128 .f32) (ss : FVec Ideal S2x128 .f32) : FVec Ideal S320000x128 .f32 := fun i =>
  max (y i * ss (ix2 0 (i 1)) + ss (ix2 1 (i 1))) 0

theorem idx5 : ∀ t : Fin cfg5.N, win5_0.index t = ![t.val, 0] ∧ win5_1.index t = ![0, 0] ∧ win5_2.index t = ![t.val, 0] :=
  (by decide +kernel : ∀ t : Fin grid5.N, _)

/-- What the body leaves in the output block, at an index. -/
theorem out5_at (x0 : FVec Ideal S8000x128 .f32) (x1 : FVec Ideal S2x128 .f32) :
    out5_2 (F := Ideal) x0 x1 = fun y => max (x0 y * x1 (ix2 0 (y 1)) + x1 (ix2 1 (y 1))) 0 := by
  funext y
  frame_out
  pointwise [k5_pay1]

theorem final5 (c : Dev nD) : (dat5 V c).arrAt 2 cfg5.N = edgeOut (V c main_v147_0) (V c main_v166) := by
  refine (dat5 V c).arrAt_eq_of_covers 2 _ (by decide +kernel) fun t _ y => ?_
  blk_simp
  rw [after5_2, out5_at]
  simp only [edgeOut]
  blk_point [iblk5, idx5 t]

end Cert.KernelIdeal.Value
-- ==== Proof.Region3.lean ====
/-
  The values of the edge half's first pass: after the last grid point the statistics block holds the column sums and
  the column sums of squares of the first layer over all 320000 rows.
-/
module

public import proofs.«01_k».proof.Proof.Gen.KernelIdeal.Frame.Region3
public import proofs.«01_k».proof.Proof.TwoRows
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

theorem idx3 : ∀ t : Fin cfg3.N, win3_0.index t = ![t.val, 0] ∧ win3_1.index t = ![t.val, 0] ∧ win3_2.index t = ![0, 0]
    ∧ win3_3.index t = ![0, 0] ∧ win3_4.index t = ![0, 0] :=
  (by decide +kernel : ∀ t : Fin grid3.N, _)

/-- The block's first layer. -/
theorem pay3_1 (x0 x1 : FVec Ideal S8000x128 .f32) (A : FVec Ideal S128x256 .f32) (M : FVec Ideal S128x256 .f32)
    (r : Fin 8000) (l : Fin 256) : k3_pay1 (F := Ideal) x0 A x1 M (ix2 r l)
      = (∑ k : Fin 128, x0 (ix2 r k) * A (ix2 k l)) + ∑ k : Fin 128, x1 (ix2 r k) * M (ix2 k l) := by
  pointwise [k3_pay1]

theorem pay3_2 (j : S2x256.Idx) : k3_pay2 (F := Ideal) j = 0 := by
  pointwise [k3_pay2]

theorem pay3_3 (x0 x1 : FVec Ideal S8000x128 .f32) (A : FVec Ideal S128x256 .f32) (M : FVec Ideal S128x256 .f32)
    (acc : FVec Ideal S1x256 .f32) (l : Fin 256) : k3_pay3 (F := Ideal) x0 A x1 M acc (ix2 0 l)
      = acc (ix2 0 l) + ∑ r : Fin 8000, k3_pay1 (F := Ideal) x0 A x1 M (ix2 r l) := by
  pointwise [k3_pay3]

theorem pay3_4 (x0 x1 : FVec Ideal S8000x128 .f32) (A : FVec Ideal S128x256 .f32) (M : FVec Ideal S128x256 .f32)
    (acc : FVec Ideal S1x256 .f32) (l : Fin 256) : k3_pay4 (F := Ideal) x0 A x1 M acc (ix2 0 l)
      = acc (ix2 0 l) + ∑ r : Fin 8000, k3_pay1 (F := Ideal) x0 A x1 M (ix2 r l) * k3_pay1 (F := Ideal) x0 A x1 M (ix2 r l) := by
  pointwise [k3_pay4]

/-- The block's rows of the first layer, at a point. -/
def blockY3 (c : Dev nD) (t : Fin cfg3.N) (r : Fin 8000) (l : Fin 256) : EReal :=
  k3_pay1 (F := Ideal) (iblk3 V c 0 t) (iblk3 V c 2 t) (iblk3 V c 1 t) (iblk3 V c 3 t) (ix2 r l)

attribute [local irreducible] k3_pay1 k3_pay2 k3_pay3 k3_pay4

theorem outs3_A (c : Dev nD) (t : Fin cfg3.N) (h : t.val % 40 = 0) (j : S2x256.Idx) :
    (outsAt3 V c t.val t.isLt : S2x256.Idx → EReal) j = 0 + stats (blockY3 V c t) (j 0) (j 1) := by
  obtain ⟨r, l, rfl⟩ : ∃ (r : Fin 2) (l : Fin 256), j = ix2 r l := ⟨j 0, j 1, by funext a; fin_cases a <;> rfl⟩
  rw [outsAt3_A V c t h]
  frame_out
  exact first_stats (n := 256) (ms3_4 t).view _ _ _ _ _ _ _ pay3_2 (pay3_3 _ _ _ _) (pay3_4 _ _ _ _) r l

theorem outs3_B (c : Dev nD) (t : Fin cfg3.N) (h : ¬ t.val % 40 = 0) (j : S2x256.Idx) :
    (outsAt3 V c t.val t.isLt : S2x256.Idx → EReal) j
      = (outsAt3 V c (t.val - 1) (Nat.lt_of_le_of_lt (Nat.sub_le _ _) t.isLt) : S2x256.Idx → EReal) j + stats (blockY3 V c t) (j 0) (j 1) := by
  obtain ⟨r, l, rfl⟩ : ∃ (r : Fin 2) (l : Fin 256), j = ix2 r l := ⟨j 0, j 1, by funext a; fin_cases a <;> rfl⟩
  rw [outsAt3_B V c t h]
  frame_out
  exact step_stats (n := 256) _ _ _ _ _ _ (pay3_3 _ _ _ _) (pay3_4 _ _ _ _) r l

/-- A block's row is the array's row at the block's place. -/
theorem blockY3_eq (c : Dev nD) (t : Fin cfg3.N) (r : Fin 8000) (hl : t.val * 8000 + r.val < 320000) (l : Fin 256) :
    blockY3 V c t r l = edgeY (V c main_arg0) (V c main_v124) (V c main_v125) (V c main_v126) ⟨t.val * 8000 + r.val, hl⟩ l := by
  unfold blockY3 edgeY
  rw [pay3_1]
  blk_point [iblk3, idx3 t]

theorem final3 (c : Dev nD) : (dat3 V c).arrAt 4 cfg3.N
    = fun j : S2x256.Idx => stats (edgeY (V c main_arg0) (V c main_v124) (V c main_v125) (V c main_v126)) (j 0) (j 1) := by
  refine (dat3 V c).arrAt_eq_of_covers 4 _ (by decide +kernel) fun t hf y => ?_
  blk_simp
  have hr := (flush3_4 t).mp hf
  rw [after3_4]
  refine (Pipeline.eq_sum_fin_of_reset_step_apply_of_flush (M := EReal) (ι := S2x256.Idx) (fun n h => outsAt3 V c n h) 40 (fun _ => 0)
    (fun t j => stats (blockY3 V c t) (j 0) (j 1)) (outs3_A V c) (outs3_B V c) t hr y).trans ?_
  rw [zero_add]
  have ht : t.val / 40 = 0 := by have : t.val < 40 := lt_of_lt_of_eq t.isLt (show cfg3.N = 40 from N_3); omega
  refine (stats_tiles (J := 40) (T := 8000) (n := 320000) rfl
    (fun s : Fin 40 => blockY3 V c ⟨40 * (t.val / 40) + s.val, Pipeline.run_point_lt_of_flush t hr s⟩)
    (edgeY (V c main_arg0) (V c main_v124) (V c main_v125) (V c main_v126)) (fun s r hl l => ?_) _ _).trans ?_
  · rw [blockY3_eq V c _ r (by show (40 * (t.val / 40) + s.val) * 8000 + r.val < 320000; rw [ht]; omega) l]
    congr 1
    apply Fin.ext
    show (40 * (t.val / 40) + s.val) * 8000 + r.val = s.val * 8000 + r.val
    rw [ht]; omega
  · congr 1 <;> apply Fin.ext <;> blk_simp [idx3 t] <;> omega
end Cert.KernelIdeal.Value
-- ==== Proof.Region4.lean ====
/-
  The values of the edge half's second pass: every point leaves its rows of the second layer in the output block, and
  after the last grid point the statistics block holds the column sums and the column sums of squares of the second
  layer over all 320000 rows.
-/
module

public import proofs.«01_k».proof.Proof.Gen.KernelIdeal.Frame.Region4
public import proofs.«01_k».proof.Proof.Cols

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (V : (c : Dev nD) → (b : Ref sig .tc) → Buf (Elt Ideal) ((c : Thread nD τ).loc b))

theorem idx4 : ∀ t : Fin cfg4.N, win4_0.index t = ![t.val, 0] ∧ win4_1.index t = ![t.val, 0] ∧ win4_2.index t = ![0, 0]
    ∧ win4_3.index t = ![0, 0] ∧ win4_4.index t = ![0, 0] ∧ win4_5.index t = ![0, 0] ∧ win4_6.index t = ![t.val, 0]
    ∧ win4_7.index t = ![0, 0] :=
  (by decide +kernel : ∀ t : Fin grid4.N, _)

/-- The block's second layer. -/
theorem pay4_3 (x0 x1 : FVec Ideal S8000x128 .f32) (A : FVec Ideal S128x256 .f32) (M : FVec Ideal S128x256 .f32)
    (s0 s1 : FVec Ideal S1x256 .f32) (W : FVec Ideal S256x128 .f32) (r : Fin 8000) (l : Fin 128) :
    k4_pay3 (F := Ideal) x0 A x1 M s0 s1 W (ix2 r l)
      = ∑ k : Fin 256, max (((∑ q : Fin 128, x0 (ix2 r q) * A (ix2 q k)) + ∑ q : Fin 128, x1 (ix2 r q) * M (ix2 q k)) * s0 (ix2 0 k)
          + s1 (ix2 0 k)) 0 * W (ix2 k l) := by
  pointwise [k4_pay3]

theorem pay4_4 (j : S2x128.Idx) : k4_pay4 (F := Ideal) j = 0 := by
  pointwise [k4_pay4]

theorem pay4_1 (x0 x1 : FVec Ideal S8000x128 .f32) (A : FVec Ideal S128x256 .f32) (M : FVec Ideal S128x256 .f32)
    (s0 s1 : FVec Ideal S1x256 .f32) (W : FVec Ideal S256x128 .f32)
    (acc : FVec Ideal S1x128 .f32) (l : Fin 128) : k4_pay1 (F := Ideal) (k4_pay5 x0 A x1 M s0 s1 W acc) (ix2 0 l)
      = acc (ix2 0 l) + ∑ r : Fin 8000, k4_pay3 (F := Ideal) x0 A x1 M s0 s1 W (ix2 r l) := by
  pointwise [k4_pay1, k4_pay5]

theorem pay4_2 (Y : FVec Ideal S8000x128 .f32) (acc : FVec Ideal S1x128 .f32) (l : Fin 128) : k4_pay2 (F := Ideal) Y acc (ix2 0 l)
      = acc (ix2 0 l) + ∑ r : Fin 8000, Y (ix2 r l) * Y (ix2 r l) := by
  pointwise [k4_pay2]

/-- The second layer's rows the body computes from the block's inputs. -/
abbrev payZ4 (c : Dev nD) (t : Fin cfg4.N) : FVec Ideal S8000x128 .f32 :=
  k4_pay3 (F := Ideal) (iblk4 V c 0 t) (iblk4 V c 2 t) (iblk4 V c 1 t) (iblk4 V c 3 t)
    (View.ld (iblk4 V c 4 t) (Rect.unit (s := S2x256) ![0, 0] ![1, 256] inb_S2x256_S1x256_0_0))
    (View.ld (iblk4 V c 4 t) (Rect.unit (s := S2x256) ![1, 0] ![1, 256] inb_S2x256_S1x256_1_0)) (iblk4 V c 5 t)

/-- The block's rows of the second layer, at a point. -/
def blockZ4 (c : Dev nD) (t : Fin cfg4.N) (r : Fin 8000) (l : Fin 128) : EReal := payZ4 V c t (ix2 r l)

/-- A block's row is the array's row at the block's place. -/
theorem blockZ4_eq (c : Dev nD) (t : Fin cfg4.N) (r : Fin 8000) (hl : t.val * 8000 + r.val < 320000) (l : Fin 128) :
    blockZ4 V c t r l = second (edgeY (V c main_arg0) (V c main_v124) (V c main_v125) (V c main_v126)) (V c main_v146) (V c main_arg18)
      ⟨t.val * 8000 + r.val, hl⟩ l := by
  unfold blockZ4 second edgeY payZ4
  rw [pay4_3]
  have e0 : ∀ k : Fin 256, View.ld (iblk4 V c 4 t) (Rect.unit (s := S2x256) ![0, 0] ![1, 256] inb_S2x256_S1x256_0_0) (ix2 0 k : S1x256.Idx)
      = iblk4 V c 4 t (ix2 0 k : S2x256.Idx) := fun k => TwoRows.ld0 (n := 256) (Val := Elt Ideal) (e := .f32) inb_S2x256_S1x256_0_0 (iblk4 V c 4 t) k
  have e1 : ∀ k : Fin 256, View.ld (iblk4 V c 4 t) (Rect.unit (s := S2x256) ![1, 0] ![1, 256] inb_S2x256_S1x256_1_0) (ix2 0 k : S1x256.Idx)
      = iblk4 V c 4 t (ix2 1 k : S2x256.Idx) := fun k => TwoRows.ld1 (n := 256) (Val := Elt Ideal) (e := .f32) inb_S2x256_S1x256_1_0 (iblk4 V c 4 t) k
  simp only [e0, e1]
  blk_point [iblk4, idx4 t]

attribute [local irreducible] k4_pay1 k4_pay2 k4_pay3 k4_pay4 k4_pay5

/-- What a point leaves in the output block. -/
theorem outs4_rows (c : Dev nD) (t : Fin cfg4.N) : (outsAt4 V c t.val t.isLt).1 = payZ4 V c t := by
  by_cases h : t.val % 40 = 0
  · rw [outsAt4_A V c t h]
    frame_out
    rfl
  · rw [outsAt4_B V c t h]
    frame_out
    rfl

theorem outs4_A (c : Dev nD) (t : Fin cfg4.N) (h : t.val % 40 = 0) (j : S2x128.Idx) :
    ((outsAt4 V c t.val t.isLt).2 : S2x128.Idx → EReal) j = 0 + stats (blockZ4 V c t) (j 0) (j 1) := by
  obtain ⟨r, l, rfl⟩ : ∃ (r : Fin 2) (l : Fin 128), j = ix2 r l := ⟨j 0, j 1, by funext a; fin_cases a <;> rfl⟩
  rw [outsAt4_A V c t h]
  frame_out
  have h3 := pay4_1 (iblk4 V c 0 t) (iblk4 V c 1 t) (iblk4 V c 2 t) (iblk4 V c 3 t)
    (View.ld (iblk4 V c 4 t) (Rect.unit (s := S2x256) ![0, 0] ![1, 256] inb_S2x256_S1x256_0_0))
    (View.ld (iblk4 V c 4 t) (Rect.unit (s := S2x256) ![1, 0] ![1, 256] inb_S2x256_S1x256_1_0)) (iblk4 V c 5 t)
  unfold blockZ4 payZ4
  generalize k4_pay5 (F := Ideal) (iblk4 V c 0 t) (iblk4 V c 2 t) (iblk4 V c 1 t) (iblk4 V c 3 t)
    (View.ld (iblk4 V c 4 t) (Rect.unit (s := S2x256) ![0, 0] ![1, 256] inb_S2x256_S1x256_0_0))
    (View.ld (iblk4 V c 4 t) (Rect.unit (s := S2x256) ![1, 0] ![1, 256] inb_S2x256_S1x256_1_0)) (iblk4 V c 5 t) = S at h3 ⊢
  generalize k4_pay3 (F := Ideal) (iblk4 V c 0 t) (iblk4 V c 2 t) (iblk4 V c 1 t) (iblk4 V c 3 t)
    (View.ld (iblk4 V c 4 t) (Rect.unit (s := S2x256) ![0, 0] ![1, 256] inb_S2x256_S1x256_0_0))
    (View.ld (iblk4 V c 4 t) (Rect.unit (s := S2x256) ![1, 0] ![1, 256] inb_S2x256_S1x256_1_0)) (iblk4 V c 5 t) = Z at h3 ⊢
  generalize (ms4_7 t).view = v
  have key := first_stats (n := 128) v inb_S2x128_S1x128_1_0 inb_S2x128_S1x128_0_0 inb_S2x128_S2x128_0_0
    (fun acc => k4_pay1 (F := Ideal) (S acc)) (fun acc => k4_pay2 (F := Ideal) Z acc)
    (k4_pay4 (F := Ideal)) (fun r l => Z (ix2 r l)) pay4_4 h3 (pay4_2 Z) r l
  exact key

theorem outs4_B (c : Dev nD) (t : Fin cfg4.N) (h : ¬ t.val % 40 = 0) (j : S2x128.Idx) :
    ((outsAt4 V c t.val t.isLt).2 : S2x128.Idx → EReal) j
      = ((outsAt4 V c (t.val - 1) (Nat.lt_of_le_of_lt (Nat.sub_le _ _) t.isLt)).2 : S2x128.Idx → EReal) j
        + stats (blockZ4 V c t) (j 0) (j 1) := by
  obtain ⟨r, l, rfl⟩ : ∃ (r : Fin 2) (l : Fin 128), j = ix2 r l := ⟨j 0, j 1, by funext a; fin_cases a <;> rfl⟩
  rw [outsAt4_B V c t h]
  frame_out
  have h3 := pay4_1 (iblk4 V c 0 t) (iblk4 V c 1 t) (iblk4 V c 2 t) (iblk4 V c 3 t)
    (View.ld (iblk4 V c 4 t) (Rect.unit (s := S2x256) ![0, 0] ![1, 256] inb_S2x256_S1x256_0_0))
    (View.ld (iblk4 V c 4 t) (Rect.unit (s := S2x256) ![1, 0] ![1, 256] inb_S2x256_S1x256_1_0)) (iblk4 V c 5 t)
  unfold blockZ4 payZ4
  generalize k4_pay5 (F := Ideal) (iblk4 V c 0 t) (iblk4 V c 2 t) (iblk4 V c 1 t) (iblk4 V c 3 t)
    (View.ld (iblk4 V c 4 t) (Rect.unit (s := S2x256) ![0, 0] ![1, 256] inb_S2x256_S1x256_0_0))
    (View.ld (iblk4 V c 4 t) (Rect.unit (s := S2x256) ![1, 0] ![1, 256] inb_S2x256_S1x256_1_0)) (iblk4 V c 5 t) = S at h3 ⊢
  generalize k4_pay3 (F := Ideal) (iblk4 V c 0 t) (iblk4 V c 2 t) (iblk4 V c 1 t) (iblk4 V c 3 t)
    (View.ld (iblk4 V c 4 t) (Rect.unit (s := S2x256) ![0, 0] ![1, 256] inb_S2x256_S1x256_0_0))
    (View.ld (iblk4 V c 4 t) (Rect.unit (s := S2x256) ![1, 0] ![1, 256] inb_S2x256_S1x256_1_0)) (iblk4 V c 5 t) = Z at h3 ⊢
  exact step_stats (n := 128) inb_S2x128_S1x128_1_0 inb_S2x128_S1x128_0_0
    (fun acc => k4_pay1 (F := Ideal) (S acc)) (fun acc => k4_pay2 (F := Ideal) Z acc)
    _ (fun r l => Z (ix2 r l)) h3 (pay4_2 Z) r l

/-- The output rows after the run. -/
theorem final4_6 (c : Dev nD) : (dat4 V c).arrAt 6 cfg4.N
    = fun j : S320000x128.Idx => second (edgeY (V c main_arg0) (V c main_v124) (V c main_v125) (V c main_v126)) (V c main_v146) (V c main_arg18) (j 0) (j 1) := by
  refine (dat4 V c).arrAt_eq_of_covers 6 _ (by decide +kernel) fun t hf y => ?_
  blk_simp
  rw [after4_6, outs4_rows]
  have ht : t.val < 40 := lt_of_lt_of_eq t.isLt (show cfg4.N = 40 from N_4)
  have hy : (y 0 : ℕ) < 8000 := (y 0).isLt
  refine (show (payZ4 V c t y : EReal) = blockZ4 V c t (y 0) (y 1) from ?_).trans ((blockZ4_eq V c t (y 0) (by omega) (y 1)).trans ?_)
  · refine congrArg (payZ4 V c t) ?_
    funext a; fin_cases a <;> rfl
  · refine congrArg₂ (second (edgeY (V c main_arg0) (V c main_v124) (V c main_v125) (V c main_v126)) (V c main_v146) (V c main_arg18)) (Fin.ext ?_) (Fin.ext ?_)
    · blk_simp [idx4 t]
    · blk_simp [idx4 t]

/-- The statistics after the run. -/
theorem final4_7 (c : Dev nD) : (dat4 V c).arrAt 7 cfg4.N
    = fun j : S2x128.Idx => stats (second (edgeY (V c main_arg0) (V c main_v124) (V c main_v125) (V c main_v126)) (V c main_v146) (V c main_arg18)) (j 0) (j 1) := by
  refine (dat4 V c).arrAt_eq_of_covers 7 _ (by decide +kernel) fun t hf y => ?_
  blk_simp
  have hr := (flush4_7 t).mp hf
  rw [after4_7]
  refine (Pipeline.eq_sum_fin_of_reset_step_apply_of_flush (M := EReal) (ι := S2x128.Idx) (fun n h => (outsAt4 V c n h).2) 40 (fun _ => 0)
    (fun t j => stats (blockZ4 V c t) (j 0) (j 1)) (outs4_A V c) (outs4_B V c) t hr y).trans ?_
  rw [zero_add]
  have ht : t.val / 40 = 0 := by have : t.val < 40 := lt_of_lt_of_eq t.isLt (show cfg4.N = 40 from N_4); omega
  refine (stats_tiles (J := 40) (T := 8000) (n := 320000) rfl
    (fun s : Fin 40 => blockZ4 V c ⟨40 * (t.val / 40) + s.val, Pipeline.run_point_lt_of_flush t hr s⟩)
    (second (edgeY (V c main_arg0) (V c main_v124) (V c main_v125) (V c main_v126)) (V c main_v146) (V c main_arg18)) (fun s r hl l => ?_) _ _).trans ?_
  · rw [blockZ4_eq V c _ r (by show (40 * (t.val / 40) + s.val) * 8000 + r.val < 320000; rw [ht]; omega) l]
    refine congrArg (fun q => second (edgeY (V c main_arg0) (V c main_v124) (V c main_v125) (V c main_v126)) (V c main_v146) (V c main_arg18) q l) (Fin.ext ?_)
    show (40 * (t.val / 40) + s.val) * 8000 + r.val = s.val * 8000 + r.val
    rw [ht]; omega
  · refine congrArg₂ (stats (second (edgeY (V c main_arg0) (V c main_v124) (V c main_v125) (V c main_v126)) (V c main_v146) (V c main_arg18))) (Fin.ext ?_) (Fin.ext ?_)
    · blk_simp [idx4 t]
    · blk_simp [idx4 t]
end Cert.KernelIdeal.Value
-- ==== Proof.KernelValue.lean ====
module

public import proofs.«01_k».proof.Proof.Gen.KernelIdeal.Frame
public import proofs.«01_k».proof.Proof.Halves
public import proofs.«01_k».proof.Proof.Host
public import proofs.«01_k».proof.Proof.KernelPool
public import proofs.«01_k».proof.Proof.KernelSpread
public import proofs.«01_k».proof.Proof.Region0
public import proofs.«01_k».proof.Proof.Region1
public import proofs.«01_k».proof.Proof.Region2
public import proofs.«01_k».proof.Proof.Region3
public import proofs.«01_k».proof.Proof.Region4

/-!
# What the kernel leaves in its two results

The six regions and the host stretches between them, read one after another from the arguments.
-/

@[expose] public section
set_option maxRecDepth 16384
noncomputable section
open Idealize.ShloMosaic Idealize.ShloMosaic.TcCoe Idealize.SL.Sem
namespace Cert.KernelIdeal.Value
open Cert.KernelIdeal Cert.KernelIdeal.Gen Cert.Algebra

/-- The cycle half's first layer before its normalisation, as the kernel adds it up. -/
def cycIn (x p : FVec Ideal S30000x128 .f32) (aut : FVec Ideal S2x6x128x128 .f32) (w : FVec Ideal S384x256 .f32) (r : Fin 30000)
    (l : Fin 256) : EReal :=
  (∑ k : Fin 128, x (ix2 r k) * w (ix2 (⟨k.val, by omega⟩ : Fin 384) l)) +
    ∑ k : Fin 128, p (ix2 r k) * mix aut w (⟨r.val / 5000, by omega⟩ : Fin 6) k l

/-- The edge half's first layer before its normalisation. -/
def edgeIn (x q : FVec Ideal S320000x128 .f32) (w : FVec Ideal S256x256 .f32) (r : Fin 320000) (l : Fin 256) : EReal :=
  (∑ k : Fin 128, x (ix2 r k) * w (ix2 (⟨k.val, by omega⟩ : Fin 256) l)) +
    ∑ k : Fin 128, q (ix2 r k) * w (ix2 (⟨128 + k.val, by omega⟩ : Fin 256) l)

/-- The cycle half's result. -/
def cycRes (x p : FVec Ideal S30000x128 .f32) (aut : FVec Ideal S2x6x128x128 .f32) (w : FVec Ideal S384x256 .f32)
    (g1 b1 : FVec Ideal S256 .f32) (W : FVec Ideal S256x128 .f32) (g2 b2 : FVec Ideal S128 .f32) : FVec Ideal S30000x128 .f32 :=
  fun j => kerHalf nCyc eps (cycIn x p aut w) (fun k => g1 (ix1 k)) (fun k => b1 (ix1 k)) (fun k l => W (ix2 k l))
    (fun l => g2 (ix1 l)) (fun l => b2 (ix1 l)) (j 0) (j 1)

/-- The edge half's result. -/
def edgeRes (x q : FVec Ideal S320000x128 .f32) (w : FVec Ideal S256x256 .f32)
    (g1 b1 : FVec Ideal S256 .f32) (W : FVec Ideal S256x128 .f32) (g2 b2 : FVec Ideal S128 .f32) : FVec Ideal S320000x128 .f32 :=
  fun j => kerHalf nEdge eps (edgeIn x q w) (fun k => g1 (ix1 k)) (fun k => b1 (ix1 k)) (fun k l => W (ix2 k l))
    (fun l => g2 (ix1 l)) (fun l => b2 (ix1 l)) (j 0) (j 1)

/-- Two layers scaled and shifted by rows made of their own column statistics. -/
theorem ker_layers {n : ℕ} (N ε : EReal) (Y : Fin n → Fin 256 → EReal) (ss : FVec Ideal S2x256 .f32) (W : FVec Ideal S256x128 .f32)
    (tt : FVec Ideal S2x128 .f32) (g1 b1 : Fin 256 → EReal) (g2 b2 : Fin 128 → EReal)
    (h0 : ∀ k, ss (ix2 0 k) = scaleOf N ε (stats Y 0 k) (stats Y 1 k) (g1 k))
    (h1 : ∀ k, ss (ix2 1 k) = shiftOf N ε (stats Y 0 k) (stats Y 1 k) (g1 k) (b1 k))
    (h2 : ∀ l, tt (ix2 0 l) = scaleOf N ε (stats (second Y ss W) 0 l) (stats (second Y ss W) 1 l) (g2 l))
    (h3 : ∀ l, tt (ix2 1 l) = shiftOf N ε (stats (second Y ss W) 0 l) (stats (second Y ss W) 1 l) (g2 l) (b2 l))
    (r : Fin n) (l : Fin 128) :
    max (second Y ss W r l * tt (ix2 0 l) + tt (ix2 1 l)) 0 = kerHalf N ε Y g1 b1 (fun k l => W (ix2 k l)) g2 b2 r l := by
  have e : ∀ s l, second Y ss W s l = ∑ k, max (kerNorm N ε (fun t => Y t k) (g1 k) (b1 k) s) 0 * W (ix2 k l) := by
    intro s l
    unfold second
    refine Finset.sum_congr rfl fun k _ => ?_
    rw [h0, h1]
    rfl
  rw [h2, h3]
  simp only [stats, e]
  rfl

variable (m : (ℓ : Loc nD τ sig) → Buf (Elt Ideal) ℓ) (ρ : Dev nD → PrngReg) (c : Dev nD)

/-- Argument `r` at launch. -/
abbrev arg (r : Ref sig .tc) : Buf (Elt Ideal) ((c : Thread nD τ).loc r) := m ((c : Thread nD τ).loc r)

/-- The pooled rows of the arguments. -/
abbrev poolArg : (s : Fin 6) → FVec Ideal S5000x128 .f32 :=
  pools (arg m c main_arg0) (arg m c main_arg2) (arg m c main_arg3) (arg m c main_arg4) (arg m c main_arg5) (arg m c main_arg6)
    (arg m c main_arg7)

/-- The rows taken for length 3. -/
theorem take3_val : W2 m ρ c (Proc.devRef .tc main_v4) = take3 (arg m c main_arg0) (arg m c main_arg2) := by
  refine (after_take3 (W1 m ρ c)).trans ?_
  rw [W1_args m ρ c main_arg0 (by decide), W1_args m ρ c main_arg2 (by decide)]

/-- Their sum, as the last of these stretches finds it. -/
theorem pool3_val : W12 m ρ c (Proc.devRef .tc main_v5) = pool3 (arg m c main_arg0) (arg m c main_arg2) := by
  rw [W12_of m ρ c main_v5 (by decide), W11_of m ρ c main_v5 (by decide), W10_of m ρ c main_v5 (by decide), W9_of m ρ c main_v5 (by decide), W8_of m ρ c main_v5 (by decide), W7_of m ρ c main_v5 (by decide), W6_of m ρ c main_v5 (by decide), W5_of m ρ c main_v5 (by decide), W4_of m ρ c main_v5 (by decide)]
  refine (after_sum3 (W2 m ρ c)).trans ?_
  rw [take3_val]
  rfl

/-- The rows taken for length 4. -/
theorem take4_val : W4 m ρ c (Proc.devRef .tc main_v6) = take4 (arg m c main_arg0) (arg m c main_arg3) := by
  refine (after_take4 (W3 m ρ c)).trans ?_
  rw [W3_args m ρ c main_arg0 (by decide), W3_args m ρ c main_arg3 (by decide)]

/-- Their sum, as the last of these stretches finds it. -/
theorem pool4_val : W12 m ρ c (Proc.devRef .tc main_v7) = pool4 (arg m c main_arg0) (arg m c main_arg3) := by
  rw [W12_of m ρ c main_v7 (by decide), W11_of m ρ c main_v7 (by decide), W10_of m ρ c main_v7 (by decide), W9_of m ρ c main_v7 (by decide), W8_of m ρ c main_v7 (by decide), W7_of m ρ c main_v7 (by decide), W6_of m ρ c main_v7 (by decide)]
  refine (after_sum4 (W4 m ρ c)).trans ?_
  rw [take4_val]
  rfl

/-- The rows taken for length 5. -/
theorem take5_val : W6 m ρ c (Proc.devRef .tc main_v8) = take5 (arg m c main_arg0) (arg m c main_arg4) := by
  refine (after_take5 (W5 m ρ c)).trans ?_
  rw [W5_args m ρ c main_arg0 (by decide), W5_args m ρ c main_arg4 (by decide)]

/-- Their sum, as the last of these stretches finds it. -/
theorem pool5_val : W12 m ρ c (Proc.devRef .tc main_v9) = pool5 (arg m c main_arg0) (arg m c main_arg4) := by
  rw [W12_of m ρ c main_v9 (by decide), W11_of m ρ c main_v9 (by decide), W10_of m ρ c main_v9 (by decide), W9_of m ρ c main_v9 (by decide), W8_of m ρ c main_v9 (by decide)]
  refine (after_sum5 (W6 m ρ c)).trans ?_
  rw [take5_val]
  rfl

/-- The rows taken for length 6. -/
theorem take6_val : W8 m ρ c (Proc.devRef .tc main_v10) = take6 (arg m c main_arg0) (arg m c main_arg5) := by
  refine (after_take6 (W7 m ρ c)).trans ?_
  rw [W7_args m ρ c main_arg0 (by decide), W7_args m ρ c main_arg5 (by decide)]

/-- Their sum, as the last of these stretches finds it. -/
theorem pool6_val : W12 m ρ c (Proc.devRef .tc main_v11) = pool6 (arg m c main_arg0) (arg m c main_arg5) := by
  rw [W12_of m ρ c main_v11 (by decide), W11_of m ρ c main_v11 (by decide), W10_of m ρ c main_v11 (by decide)]
  refine (after_sum6 (W8 m ρ c)).trans ?_
  rw [take6_val]
  rfl

/-- The rows taken for length 7. -/
theorem take7_val : W10 m ρ c (Proc.devRef .tc main_v12) = take7 (arg m c main_arg0) (arg m c main_arg6) := by
  refine (after_take7 (W9 m ρ c)).trans ?_
  rw [W9_args m ρ c main_arg0 (by decide), W9_args m ρ c main_arg6 (by decide)]

/-- Their sum, as the last of these stretches finds it. -/
theorem pool7_val : W12 m ρ c (Proc.devRef .tc main_v13) = pool7 (arg m c main_arg0) (arg m c main_arg6) := by
  rw [W12_of m ρ c main_v13 (by decide)]
  refine (after_sum7 (W10 m ρ c)).trans ?_
  rw [take7_val]
  rfl

/-- The rows taken for length 8. -/
theorem take8_val : W12 m ρ c (Proc.devRef .tc main_v14) = take8 (arg m c main_arg0) (arg m c main_arg7) := by
  refine (after_take8 (W11 m ρ c)).trans ?_
  rw [W11_args m ρ c main_arg0 (by decide), W11_args m ρ c main_arg7 (by decide)]

/-- The joined pooled rows. -/
theorem pools_val : W13 m ρ c (Proc.devRef .tc main_v16) = joined (poolArg m c) := by
  refine (after_join (W12 m ρ c)).trans ?_
  rw [pool3_val, pool4_val, pool5_val, pool6_val, pool7_val, take8_val]
  rfl

/-- The first layer's entries, as region 0 reads its arrays. -/
theorem cycY_val : cycY (V13 m ρ c main_arg1) (V13 m ρ c main_v16) (V13 m ρ c main_v0) (V13 m ρ c main_v3) =
    cycIn (arg m c main_arg1) (joined (poolArg m c)) (arg m c main_arg8) (arg m c main_arg9) := by
  have e1 : V13 m ρ c main_arg1 = arg m c main_arg1 := W13_args m ρ c main_arg1 (by decide)
  have e2 : V13 m ρ c main_v16 = joined (poolArg m c) := pools_val m ρ c
  have e3 : V13 m ρ c main_v0 = StableHlo.after hostOps0 (W0 m ρ c) (Proc.devRef .tc main_v0) := by
    show W13 m ρ c (Proc.devRef .tc main_v0) = _
    rw [W13_of m ρ c main_v0 (by decide), W12_of m ρ c main_v0 (by decide), W11_of m ρ c main_v0 (by decide), W10_of m ρ c main_v0 (by decide), W9_of m ρ c main_v0 (by decide), W8_of m ρ c main_v0 (by decide), W7_of m ρ c main_v0 (by decide), W6_of m ρ c main_v0 (by decide), W5_of m ρ c main_v0 (by decide), W4_of m ρ c main_v0 (by decide), W3_of m ρ c main_v0 (by decide), W2_of m ρ c main_v0 (by decide)]
  have e4 : V13 m ρ c main_v3 = StableHlo.after hostOps0 (W0 m ρ c) (Proc.devRef .tc main_v3) := by
    show W13 m ρ c (Proc.devRef .tc main_v3) = _
    rw [W13_of m ρ c main_v3 (by decide), W12_of m ρ c main_v3 (by decide), W11_of m ρ c main_v3 (by decide), W10_of m ρ c main_v3 (by decide), W9_of m ρ c main_v3 (by decide), W8_of m ρ c main_v3 (by decide), W7_of m ρ c main_v3 (by decide), W6_of m ρ c main_v3 (by decide), W5_of m ρ c main_v3 (by decide), W4_of m ρ c main_v3 (by decide), W3_of m ρ c main_v3 (by decide), W2_of m ρ c main_v3 (by decide)]
  rw [e1, e2, e3, e4]
  funext r l
  unfold cycY cycIn
  refine congrArg₂ (· + ·) (Finset.sum_congr rfl fun k _ => ?_) (Finset.sum_congr rfl fun k _ => ?_)
  · rw [after_w1a (W0 m ρ c) k l]
  · rw [after_mix (W0 m ρ c) _ k l]

/-- The second pass of the cyc half reads the first layer's arrays as the first pass found them. -/
theorem cyc_same : cycY (V15 m ρ c main_arg1) (V15 m ρ c main_v16) (V15 m ρ c main_v0) (V15 m ρ c main_v3) =
    cycY (V13 m ρ c main_arg1) (V13 m ρ c main_v16) (V13 m ρ c main_v0) (V13 m ρ c main_v3) := by
  have e0 : V15 m ρ c main_arg1 = V13 m ρ c main_arg1 :=
    (W15_of m ρ c main_arg1 (by decide)).trans (W14_of m ρ c main_arg1 (by decide +kernel))
  have e1 : V15 m ρ c main_v16 = V13 m ρ c main_v16 :=
    (W15_of m ρ c main_v16 (by decide)).trans (W14_of m ρ c main_v16 (by decide +kernel))
  have e2 : V15 m ρ c main_v0 = V13 m ρ c main_v0 :=
    (W15_of m ρ c main_v0 (by decide)).trans (W14_of m ρ c main_v0 (by decide +kernel))
  have e3 : V15 m ρ c main_v3 = V13 m ρ c main_v3 :=
    (W15_of m ρ c main_v3 (by decide)).trans (W14_of m ρ c main_v3 (by decide +kernel))
  rw [e0, e1, e2, e3]

/-- The first pass's statistics. -/
theorem cyc_stats1 : W14 m ρ c (Proc.devRef .tc main_v17) = fun j : S2x256.Idx => stats (cycY (V13 m ρ c main_arg1) (V13 m ρ c main_v16) (V13 m ρ c main_v0) (V13 m ρ c main_v3)) (j 0) (j 1) :=
  (W14_arr m ρ c 4).trans (final0 (V13 m ρ) c)

/-- The second pass's rows. -/
theorem cyc_rows : W16 m ρ c (Proc.devRef .tc main_v37_0) =
    fun j : S30000x128.Idx => second (cycY (V13 m ρ c main_arg1) (V13 m ρ c main_v16) (V13 m ρ c main_v0) (V13 m ρ c main_v3)) (V15 m ρ c main_v36) (arg m c main_arg12) (j 0) (j 1) := by
  have e : V15 m ρ c main_arg12 = arg m c main_arg12 := W15_args m ρ c main_arg12 (by decide)
  rw [← cyc_same m ρ c, ← e]
  exact (W16_arr m ρ c 6).trans (final1_6 (V15 m ρ) c)

/-- The second pass's statistics. -/
theorem cyc_stats2 : W16 m ρ c (Proc.devRef .tc main_v37_1) =
    fun j : S2x128.Idx => stats (second (cycY (V13 m ρ c main_arg1) (V13 m ρ c main_v16) (V13 m ρ c main_v0) (V13 m ρ c main_v3)) (V15 m ρ c main_v36) (arg m c main_arg12)) (j 0) (j 1) := by
  have e : V15 m ρ c main_arg12 = arg m c main_arg12 := W15_args m ρ c main_arg12 (by decide)
  rw [← cyc_same m ρ c, ← e]
  exact (W16_arr m ρ c 7).trans (final1_7 (V15 m ρ) c)

/-- The third pass's result. -/
theorem cyc_out : W18 m ρ c (Proc.devRef .tc main_v57) = fun j : S30000x128.Idx =>
    kerHalf nCyc eps (cycY (V13 m ρ c main_arg1) (V13 m ρ c main_v16) (V13 m ρ c main_v0) (V13 m ρ c main_v3))
      (fun k => (arg m c main_arg10 : S256.Idx → EReal) (ix1 k)) (fun k => (arg m c main_arg11 : S256.Idx → EReal) (ix1 k))
      (fun k l => (arg m c main_arg12 : S256x128.Idx → EReal) (ix2 k l))
      (fun l => (arg m c main_arg13 : S128.Idx → EReal) (ix1 l)) (fun l => (arg m c main_arg14 : S128.Idx → EReal) (ix1 l))
      (j 0) (j 1) := by
  refine ((W18_arr m ρ c 2).trans (final2 (V17 m ρ) c)).trans ?_
  have ey : V17 m ρ c main_v37_0 = _ := (W17_of m ρ c main_v37_0 (by decide)).trans (cyc_rows m ρ c)
  rw [ey]
  funext j
  have a1 : W14 m ρ c (Proc.devRef .tc main_arg10) = arg m c main_arg10 := W14_args m ρ c main_arg10 (by decide)
  have a2 : W14 m ρ c (Proc.devRef .tc main_arg11) = arg m c main_arg11 := W14_args m ρ c main_arg11 (by decide)
  have a3 : W16 m ρ c (Proc.devRef .tc main_arg13) = arg m c main_arg13 := W16_args m ρ c main_arg13 (by decide)
  have a4 : W16 m ρ c (Proc.devRef .tc main_arg14) = arg m c main_arg14 := W16_args m ρ c main_arg14 (by decide)
  have s0 := fun k => scale1 (W14 m ρ c) k
  have s1 := fun k => shift1 (W14 m ρ c) k
  have t0 := fun k => scale2 (W16 m ρ c) k
  have t1 := fun k => shift2 (W16 m ρ c) k
  rw [cyc_stats1, a1] at s0
  rw [cyc_stats1, a1, a2] at s1
  rw [cyc_stats2, a3] at t0
  rw [cyc_stats2, a3, a4] at t1
  exact ker_layers nCyc eps _ (V15 m ρ c main_v36) _ (V17 m ρ c main_v56) _ _ _ _ s0 s1 t0 t1 (j 0) (j 1)

/-- The second pass of the edge half reads the first layer's arrays as the first pass found them. -/
theorem edge_same : edgeY (V21 m ρ c main_arg0) (V21 m ρ c main_v124) (V21 m ρ c main_v125) (V21 m ρ c main_v126) =
    edgeY (V19 m ρ c main_arg0) (V19 m ρ c main_v124) (V19 m ρ c main_v125) (V19 m ρ c main_v126) := by
  have e0 : V21 m ρ c main_arg0 = V19 m ρ c main_arg0 :=
    (W21_of m ρ c main_arg0 (by decide)).trans (W20_of m ρ c main_arg0 (by decide +kernel))
  have e1 : V21 m ρ c main_v124 = V19 m ρ c main_v124 :=
    (W21_of m ρ c main_v124 (by decide)).trans (W20_of m ρ c main_v124 (by decide +kernel))
  have e2 : V21 m ρ c main_v125 = V19 m ρ c main_v125 :=
    (W21_of m ρ c main_v125 (by decide)).trans (W20_of m ρ c main_v125 (by decide +kernel))
  have e3 : V21 m ρ c main_v126 = V19 m ρ c main_v126 :=
    (W21_of m ρ c main_v126 (by decide)).trans (W20_of m ρ c main_v126 (by decide +kernel))
  rw [e0, e1, e2, e3]

/-- The first pass's statistics. -/
theorem edge_stats1 : W20 m ρ c (Proc.devRef .tc main_v127) = fun j : S2x256.Idx => stats (edgeY (V19 m ρ c main_arg0) (V19 m ρ c main_v124) (V19 m ρ c main_v125) (V19 m ρ c main_v126)) (j 0) (j 1) :=
  (W20_arr m ρ c 4).trans (final3 (V19 m ρ) c)

/-- The second pass's rows. -/
theorem edge_rows : W22 m ρ c (Proc.devRef .tc main_v147_0) =
    fun j : S320000x128.Idx => second (edgeY (V19 m ρ c main_arg0) (V19 m ρ c main_v124) (V19 m ρ c main_v125) (V19 m ρ c main_v126)) (V21 m ρ c main_v146) (arg m c main_arg18) (j 0) (j 1) := by
  have e : V21 m ρ c main_arg18 = arg m c main_arg18 := W21_args m ρ c main_arg18 (by decide)
  rw [← edge_same m ρ c, ← e]
  exact (W22_arr m ρ c 6).trans (final4_6 (V21 m ρ) c)

/-- The second pass's statistics. -/
theorem edge_stats2 : W22 m ρ c (Proc.devRef .tc main_v147_1) =
    fun j : S2x128.Idx => stats (second (edgeY (V19 m ρ c main_arg0) (V19 m ρ c main_v124) (V19 m ρ c main_v125) (V19 m ρ c main_v126)) (V21 m ρ c main_v146) (arg m c main_arg18)) (j 0) (j 1) := by
  have e : V21 m ρ c main_arg18 = arg m c main_arg18 := W21_args m ρ c main_arg18 (by decide)
  rw [← edge_same m ρ c, ← e]
  exact (W22_arr m ρ c 7).trans (final4_7 (V21 m ρ) c)

/-- The third pass's result. -/
theorem edge_out : W24 m ρ c (Proc.devRef .tc main_v167) = fun j : S320000x128.Idx =>
    kerHalf nEdge eps (edgeY (V19 m ρ c main_arg0) (V19 m ρ c main_v124) (V19 m ρ c main_v125) (V19 m ρ c main_v126))
      (fun k => (arg m c main_arg16 : S256.Idx → EReal) (ix1 k)) (fun k => (arg m c main_arg17 : S256.Idx → EReal) (ix1 k))
      (fun k l => (arg m c main_arg18 : S256x128.Idx → EReal) (ix2 k l))
      (fun l => (arg m c main_arg19 : S128.Idx → EReal) (ix1 l)) (fun l => (arg m c main_arg20 : S128.Idx → EReal) (ix1 l))
      (j 0) (j 1) := by
  refine ((W24_arr m ρ c 2).trans (final5 (V23 m ρ) c)).trans ?_
  have ey : V23 m ρ c main_v147_0 = _ := (W23_of m ρ c main_v147_0 (by decide)).trans (edge_rows m ρ c)
  rw [ey]
  funext j
  have a1 : W20 m ρ c (Proc.devRef .tc main_arg16) = arg m c main_arg16 := W20_args m ρ c main_arg16 (by decide)
  have a2 : W20 m ρ c (Proc.devRef .tc main_arg17) = arg m c main_arg17 := W20_args m ρ c main_arg17 (by decide)
  have a3 : W22 m ρ c (Proc.devRef .tc main_arg19) = arg m c main_arg19 := W22_args m ρ c main_arg19 (by decide)
  have a4 : W22 m ρ c (Proc.devRef .tc main_arg20) = arg m c main_arg20 := W22_args m ρ c main_arg20 (by decide)
  have s0 := fun k => scale4 (W20 m ρ c) k
  have s1 := fun k => shift4 (W20 m ρ c) k
  have t0 := fun k => scale5 (W22 m ρ c) k
  have t1 := fun k => shift5 (W22 m ρ c) k
  rw [edge_stats1, a1] at s0
  rw [edge_stats1, a1, a2] at s1
  rw [edge_stats2, a3] at t0
  rw [edge_stats2, a3, a4] at t1
  exact ker_layers nEdge eps _ (V21 m ρ c main_v146) _ (V23 m ρ c main_v166) _ _ _ _ s0 s1 t0 t1 (j 0) (j 1)

/-- The cycle result at the end. -/
theorem cyc_value : W24 m ρ c (Proc.devRef .tc main_v57) =
    cycRes (arg m c main_arg1) (joined (poolArg m c)) (arg m c main_arg8) (arg m c main_arg9) (arg m c main_arg10)
      (arg m c main_arg11) (arg m c main_arg12) (arg m c main_arg13) (arg m c main_arg14) := by
  rw [W24_of m ρ c main_v57 (by decide +kernel), W23_of m ρ c main_v57 (by decide), W22_of m ρ c main_v57 (by decide +kernel),
    W21_of m ρ c main_v57 (by decide), W20_of m ρ c main_v57 (by decide +kernel), W19_of m ρ c main_v57 (by decide), cyc_out, cycY_val]
  rfl

/-- The edge result at the end, in terms of the cycle result. -/
theorem edge_value : W24 m ρ c (Proc.devRef .tc main_v167) =
    edgeRes (arg m c main_arg0) (spread (W24 m ρ c (Proc.devRef .tc main_v57)) (arg m c main_arg2) (arg m c main_arg3)
        (arg m c main_arg4) (arg m c main_arg5) (arg m c main_arg6) (arg m c main_arg7))
      (arg m c main_arg15) (arg m c main_arg16) (arg m c main_arg17) (arg m c main_arg18) (arg m c main_arg19)
      (arg m c main_arg20) := by
  have e57 : W24 m ρ c (Proc.devRef .tc main_v57) = W18 m ρ c (Proc.devRef .tc main_v57) := by
    rw [W24_of m ρ c main_v57 (by decide +kernel), W23_of m ρ c main_v57 (by decide), W22_of m ρ c main_v57 (by decide +kernel),
      W21_of m ρ c main_v57 (by decide), W20_of m ρ c main_v57 (by decide +kernel), W19_of m ρ c main_v57 (by decide)]
  have e0 : V19 m ρ c main_arg0 = arg m c main_arg0 := W19_args m ρ c main_arg0 (by decide)
  have e1 : V19 m ρ c main_v124 = _ := after_spread (W18 m ρ c)
  rw [W18_args m ρ c main_arg2 (by decide), W18_args m ρ c main_arg3 (by decide), W18_args m ρ c main_arg4 (by decide),
    W18_args m ρ c main_arg5 (by decide), W18_args m ρ c main_arg6 (by decide), W18_args m ρ c main_arg7 (by decide), ← e57] at e1
  have e15 : W18 m ρ c (Proc.devRef .tc main_arg15) = arg m c main_arg15 := W18_args m ρ c main_arg15 (by decide)
  have hY : edgeY (V19 m ρ c main_arg0) (V19 m ρ c main_v124) (V19 m ρ c main_v125) (V19 m ρ c main_v126) =
      edgeIn (arg m c main_arg0) (spread (W24 m ρ c (Proc.devRef .tc main_v57)) (arg m c main_arg2) (arg m c main_arg3)
        (arg m c main_arg4) (arg m c main_arg5) (arg m c main_arg6) (arg m c main_arg7)) (arg m c main_arg15) := by
    rw [e0, e1]
    funext r l
    unfold edgeY edgeIn
    refine congrArg₂ (· + ·) (Finset.sum_congr rfl fun k _ => ?_) (Finset.sum_congr rfl fun k _ => ?_)
    · have := after_ew1a (W18 m ρ c) k l
      rw [e15] at this
      exact congrArg _ this
    · have := after_ew1b (W18 m ρ c) k l
      rw [e15] at this
      exact congrArg _ this
  rw [edge_out, hY]
  rfl

end Cert.KernelIdeal.Value

end
-- ==== Proof.RefNorm.lean ====
module

public import proofs.«01_k».proof.Proof.Gen.ReferenceIdeal.Run
public import proofs.«01_k».proof.Proof.Halves
public import Idealize.ShloMosaic.Lib.Pointwise

/-!
# The reference's normalisation, read at an entry

The reference normalises four arrays by one and the same chain: mean over the rows, mean of the squared
deviations, root, gain and bias, clamp at zero. The chain is stated once, at any number of rows and columns, and read at
the four.
-/

@[expose] public section
set_option maxRecDepth 16384
noncomputable section
open Idealize.ShloMosaic
namespace Cert.ReferenceIdeal.Value
open Cert.ReferenceIdeal Cert.ReferenceIdeal.Gen Cert.Algebra

section
variable {n w : ℕ} (N : BitVec 32)
  (hr : (⟨2, ![n, w]⟩ : Shape).ReducesTo [0] ⟨1, ![w]⟩) (hu : 0 < S_.numel)
  (b1 : (⟨1, ![w]⟩ : Shape).BroadcastsInDim ⟨2, ![1, w]⟩ ![1]) (b0 : S_.BroadcastsInDim ⟨2, ![1, w]⟩ ![])
  (c0 : S_.BroadcastsInDim ⟨1, ![w]⟩ ![]) (b2 : (⟨2, ![1, w]⟩ : Shape).BroadcastsInDim ⟨2, ![n, w]⟩ ![0, 1])
  (d0 : S_.BroadcastsInDim ⟨2, ![n, w]⟩ ![])

/-- The deviations from the column means. -/
def dev (x : FVec Ideal ⟨2, ![n, w]⟩ .f32) : FVec Ideal ⟨2, ![n, w]⟩ .f32 :=
  subf x (broadcastInDim ⟨2, ![n, w]⟩ ![0, 1] b2 (Host.divf
    (broadcastInDim ⟨2, ![1, w]⟩ ![1] b1 (Host.reduceAdd x (constant (F := Ideal) S_ .f32 0x00000000#32) hr hu))
    (broadcastInDim ⟨2, ![1, w]⟩ ![] b0 (constant (F := Ideal) S_ .f32 N))))

/-- The number of rows, as the variance divides by it. -/
def count : FVec Ideal S_ .f32 := subf (constant (F := Ideal) S_ .f32 N) (sitofp .f32 (constantI S_ 32 0#32))

/-- The normalised rows, clamped at zero. -/
def normed (x : FVec Ideal ⟨2, ![n, w]⟩ .f32) (g b : FVec Ideal ⟨1, ![w]⟩ .f32) : FVec Ideal ⟨2, ![n, w]⟩ .f32 :=
  maximumf (addf (mulf (Host.divf
      (subf x (broadcastInDim ⟨2, ![n, w]⟩ ![0, 1] b2 (broadcastInDim ⟨2, ![1, w]⟩ ![1] b1 (Host.divf
        (Host.reduceAdd x (constant (F := Ideal) S_ .f32 0x00000000#32) hr hu)
        (broadcastInDim ⟨1, ![w]⟩ ![] c0 (constant (F := Ideal) S_ .f32 N))))))
      (broadcastInDim ⟨2, ![n, w]⟩ ![0, 1] b2 (broadcastInDim ⟨2, ![1, w]⟩ ![1] b1 (Host.sqrt (addf
        (select (broadcastInDim ⟨1, ![w]⟩ ![] c0 (cmpf .ogt (count N) (constant (F := Ideal) S_ .f32 0x00000000#32)))
          (Host.divf (Host.reduceAdd (mulf (dev N hr hu b1 b0 b2 x) (dev N hr hu b1 b0 b2 x)) (constant (F := Ideal) S_ .f32 0x00000000#32) hr hu)
            (broadcastInDim ⟨1, ![w]⟩ ![] c0 (count N)))
          (broadcastInDim ⟨1, ![w]⟩ ![] c0 (id (constant (F := Ideal) S_ .f32 0x7FC00000#32))))
        (broadcastInDim ⟨1, ![w]⟩ ![] c0 (constant (F := Ideal) S_ .f32 0x3727C5AC#32)))))))
      (broadcastInDim ⟨2, ![n, w]⟩ ![0, 1] b2 (broadcastInDim ⟨2, ![1, w]⟩ ![1] b1 g)))
      (broadcastInDim ⟨2, ![n, w]⟩ ![0, 1] b2 (broadcastInDim ⟨2, ![1, w]⟩ ![1] b1 b)))
    (broadcastInDim ⟨2, ![n, w]⟩ ![] d0 (constant (F := Ideal) S_ .f32 0x00000000#32))
end

/-- Nothing is taken off the number of rows. -/
theorem word_zero : (FloatOps.sitofp FTy.f32 0#32 : Ideal FTy.f32) = (0 : EReal) := by
  show (((0#32).toInt : ℝ) : EReal) = 0
  simp

/-- At 30000 rows of 256. -/
def normed_30000_256 (x : FVec Ideal S30000x256 .f32) (g b : FVec Ideal S256 .f32) : FVec Ideal S30000x256 .f32 :=
  normed 0x46EA6000#32 reducesTo_S30000x256_S256_d0 h_S_ bcast_S256_S1x256_1 bcast_S_S1x256 bcast_S_S256
    bcast_S1x256_S30000x256_0_1 bcast_S_S30000x256 x g b

/-- Its entry. -/
theorem normed_30000_256_at (x : FVec Ideal S30000x256 .f32) (g b : FVec Ideal S256 .f32) (r : Fin 30000) (l : Fin 256) :
    normed_30000_256 x g b (ix2 r l) = max (refNorm (Ideal.ofBits .f32 0x46EA6000#32) (Ideal.ofBits .f32 0x3727C5AC#32)
      (fun s => x (ix2 s l)) (g (ix1 l)) (b (ix1 l)) r) 0 := by
  have hc : Ideal.ofBits .f32 0x46EA6000#32 - FloatOps.sitofp FTy.f32 0#32 = Ideal.ofBits .f32 0x46EA6000#32 := by
    rw [word_zero, sub_zero]
  have hp : (0 : EReal) < Ideal.ofBits .f32 0x46EA6000#32 := by
    rw [lit_30000]
    exact EReal.coe_pos.2 (by norm_num)
  pointwise [normed_30000_256, normed, dev, count, refNorm, mean]
  rw [hc, if_pos hp]

/-- At 30000 rows of 128. -/
def normed_30000_128 (x : FVec Ideal S30000x128 .f32) (g b : FVec Ideal S128 .f32) : FVec Ideal S30000x128 .f32 :=
  normed 0x46EA6000#32 reducesTo_S30000x128_S128_d0 h_S_ bcast_S128_S1x128_1 bcast_S_S1x128 bcast_S_S128
    bcast_S1x128_S30000x128_0_1 bcast_S_S30000x128 x g b

/-- Its entry. -/
theorem normed_30000_128_at (x : FVec Ideal S30000x128 .f32) (g b : FVec Ideal S128 .f32) (r : Fin 30000) (l : Fin 128) :
    normed_30000_128 x g b (ix2 r l) = max (refNorm (Ideal.ofBits .f32 0x46EA6000#32) (Ideal.ofBits .f32 0x3727C5AC#32)
      (fun s => x (ix2 s l)) (g (ix1 l)) (b (ix1 l)) r) 0 := by
  have hc : Ideal.ofBits .f32 0x46EA6000#32 - FloatOps.sitofp FTy.f32 0#32 = Ideal.ofBits .f32 0x46EA6000#32 := by
    rw [word_zero, sub_zero]
  have hp : (0 : EReal) < Ideal.ofBits .f32 0x46EA6000#32 := by
    rw [lit_30000]
    exact EReal.coe_pos.2 (by norm_num)
  pointwise [normed_30000_128, normed, dev, count, refNorm, mean]
  rw [hc, if_pos hp]

/-- At 320000 rows of 256. -/
def normed_320000_256 (x : FVec Ideal S320000x256 .f32) (g b : FVec Ideal S256 .f32) : FVec Ideal S320000x256 .f32 :=
  normed 0x489C4000#32 reducesTo_S320000x256_S256_d0 h_S_ bcast_S256_S1x256_1 bcast_S_S1x256 bcast_S_S256
    bcast_S1x256_S320000x256_0_1 bcast_S_S320000x256 x g b

/-- Its entry. -/
theorem normed_320000_256_at (x : FVec Ideal S320000x256 .f32) (g b : FVec Ideal S256 .f32) (r : Fin 320000) (l : Fin 256) :
    normed_320000_256 x g b (ix2 r l) = max (refNorm (Ideal.ofBits .f32 0x489C4000#32) (Ideal.ofBits .f32 0x3727C5AC#32)
      (fun s => x (ix2 s l)) (g (ix1 l)) (b (ix1 l)) r) 0 := by
  have hc : Ideal.ofBits .f32 0x489C4000#32 - FloatOps.sitofp FTy.f32 0#32 = Ideal.ofBits .f32 0x489C4000#32 := by
    rw [word_zero, sub_zero]
  have hp : (0 : EReal) < Ideal.ofBits .f32 0x489C4000#32 := by
    rw [lit_320000]
    exact EReal.coe_pos.2 (by norm_num)
  pointwise [normed_320000_256, normed, dev, count, refNorm, mean]
  rw [hc, if_pos hp]

/-- At 320000 rows of 128. -/
def normed_320000_128 (x : FVec Ideal S320000x128 .f32) (g b : FVec Ideal S128 .f32) : FVec Ideal S320000x128 .f32 :=
  normed 0x489C4000#32 reducesTo_S320000x128_S128_d0 h_S_ bcast_S128_S1x128_1 bcast_S_S1x128 bcast_S_S128
    bcast_S1x128_S320000x128_0_1 bcast_S_S320000x128 x g b

/-- Its entry. -/
theorem normed_320000_128_at (x : FVec Ideal S320000x128 .f32) (g b : FVec Ideal S128 .f32) (r : Fin 320000) (l : Fin 128) :
    normed_320000_128 x g b (ix2 r l) = max (refNorm (Ideal.ofBits .f32 0x489C4000#32) (Ideal.ofBits .f32 0x3727C5AC#32)
      (fun s => x (ix2 s l)) (g (ix1 l)) (b (ix1 l)) r) 0 := by
  have hc : Ideal.ofBits .f32 0x489C4000#32 - FloatOps.sitofp FTy.f32 0#32 = Ideal.ofBits .f32 0x489C4000#32 := by
    rw [word_zero, sub_zero]
  have hp : (0 : EReal) < Ideal.ofBits .f32 0x489C4000#32 := by
    rw [lit_320000]
    exact EReal.coe_pos.2 (by norm_num)
  pointwise [normed_320000_128, normed, dev, count, refNorm, mean]
  rw [hc, if_pos hp]

end Cert.ReferenceIdeal.Value

end
-- ==== Proof.RefFirst.lean ====
module

public import proofs.«01_k».proof.Proof.RefNorm
public import proofs.«01_k».proof.Proof.KernelPool
public import proofs.«01_k».proof.Proof.KernelSpread

/-!
# The reference's two first layers, read at an entry

The cycle half's first layer is one product of the joined array (cycle representation, then two channels of mixed pooled
rows) with the first weight; the edge half's is one product of the edge representation beside the spread cycle rows.
-/

@[expose] public section
set_option maxRecDepth 16384
noncomputable section
open Idealize.ShloMosaic
namespace Cert.ReferenceIdeal.Value
open Cert.ReferenceIdeal Cert.ReferenceIdeal.Gen Cert.Algebra

/-- A sum over 384 as the first 128 and then two runs of 128. -/
theorem sum_384 (f : Fin 384 → EReal) : ∑ i, f i = (∑ k : Fin 128, f ⟨k.val, by omega⟩) +
    ∑ c : Fin 2, ∑ d : Fin 128, f ⟨128 + (c.val * 128 + d.val), by omega⟩ := by
  rw [show ∑ i, f i = _ from Fin.sum_univ_add (a := 128) (b := 256) f]
  refine congrArg₂ (· + ·) rfl ?_
  rw [← (finProdFinEquiv (m := 2) (n := 128)).sum_comp, Fintype.sum_prod_type]
  refine Finset.sum_congr rfl fun c _ => Finset.sum_congr rfl fun d _ => congrArg f (Fin.ext ?_)
  show 128 + (d.val + 128 * c.val) = 128 + (c.val * 128 + d.val)
  omega

/-- The block of mixing weights of channel `c` and length `s + 3` lies inside the array. -/
theorem slab_in (c : Fin 2) (s : Fin 6) : S2x6x128x128.Slices ![c.val, s.val, 0, 0] S1x1x128x128 := by
  revert c s
  decide

/-- The block of mixing weights of channel `c` and length `s + 3`. -/
def slab (c : Fin 2) (s : Fin 6) (aut : FVec Ideal S2x6x128x128 .f32) : FVec Ideal S128x128 .f32 :=
  shapeCast S128x128 (extractStridedSlice S1x1x128x128 ![c.val, s.val, 0, 0] aut (slab_in c s)) shapeCasts_S1x1x128x128_S128x128

/-- Its entry. -/
theorem slab_at (c : Fin 2) (s : Fin 6) (aut : FVec Ideal S2x6x128x128 .f32) (k d : Fin 128) :
    slab c s aut (ix2 k d) = aut (ix4 c s k d) := by
  pointwise [slab]

/-- The pooled rows of one length mixed for one channel. -/
def mixed (x : FVec Ideal S5000x128 .f32) (c : Fin 2) (s : Fin 6) (aut : FVec Ideal S2x6x128x128 .f32) : FVec Ideal S5000x128 .f32 :=
  Host.dotGeneral dot_S5000x128_S128x128_S5000x128_1_0_0_1_n_n none x (slab c s aut)

/-- Its entry. -/
theorem mixed_at (x : FVec Ideal S5000x128 .f32) (c : Fin 2) (s : Fin 6) (aut : FVec Ideal S2x6x128x128 .f32) (t : Fin 5000)
    (d : Fin 128) : mixed x c s aut (ix2 t d) = ∑ k : Fin 128, x (ix2 t k) * aut (ix4 c s k d) := by
  pointwise [mixed]
  simp only [slab_at]

/-- One channel. -/
def chan (x : (s : Fin 6) → FVec Ideal S5000x128 .f32) (c : Fin 2) (aut : FVec Ideal S2x6x128x128 .f32) : FVec Ideal S30000x128 .f32 :=
  KernelIdeal.Value.joined ![mixed (x 0) c 0 aut, mixed (x 1) c 1 aut, mixed (x 2) c 2 aut, mixed (x 3) c 3 aut, mixed (x 4) c 4 aut,
    mixed (x 5) c 5 aut]

/-- Its entry. -/
theorem chan_at (x : (s : Fin 6) → FVec Ideal S5000x128 .f32) (c : Fin 2) (aut : FVec Ideal S2x6x128x128 .f32) (r : Fin 30000)
    (d : Fin 128) : chan x c aut (ix2 r d) = ∑ k : Fin 128, KernelIdeal.Value.joined x (ix2 r k) *
      aut (ix4 c (⟨r.val / 5000, by omega⟩ : Fin 6) k d) := by
  have e : (![mixed (x 0) c 0 aut, mixed (x 1) c 1 aut, mixed (x 2) c 2 aut, mixed (x 3) c 3 aut, mixed (x 4) c 4 aut,
    mixed (x 5) c 5 aut] : (s : Fin 6) → FVec Ideal S5000x128 .f32) = fun s => mixed (x s) c s aut := by
    funext s
    fin_cases s <;> rfl
  unfold chan
  rw [e, KernelIdeal.Value.joined_at, mixed_at]
  refine Finset.sum_congr rfl fun k _ => ?_
  rw [KernelIdeal.Value.joined_at]

/-- The cycle half's first layer over its joined inputs. -/
def cycFirst (x : FVec Ideal S30000x128 .f32) (y z : FVec Ideal S30000x128 .f32) (w : FVec Ideal S384x256 .f32) : FVec Ideal S30000x256 .f32 :=
  Host.dotGeneral dot_S30000x384_S384x256_S30000x256_1_0_0_1_n_n none
    (concatenate S30000x384 1 [⟨S30000x128, x⟩, ⟨S30000x256, concatenate S30000x256 1 [⟨S30000x128, y⟩, ⟨S30000x128, z⟩]
      concatenates_S30000x128_S30000x128_S30000x256_d1⟩] concatenates_S30000x128_S30000x256_S30000x384_d1) w

theorem cycFirst_at (x y z : FVec Ideal S30000x128 .f32) (w : FVec Ideal S384x256 .f32) (r : Fin 30000) (l : Fin 256) :
    cycFirst x y z w (ix2 r l) = (∑ k : Fin 128, x (ix2 r k) * w (ix2 (⟨k.val, by omega⟩ : Fin 384) l)) +
      ∑ c : Fin 2, ∑ d : Fin 128, (if c = 0 then y (ix2 r d) else z (ix2 r d)) *
        w (ix2 (⟨128 + (c.val * 128 + d.val), by omega⟩ : Fin 384) l) := by
  pointwise [cycFirst]
  rw [sum_384]
  refine congrArg₂ (· + ·) (Finset.sum_congr rfl fun k _ => ?_) ?_
  · rw [dif_pos k.isLt]
  · rw [Fin.sum_univ_two, Fin.sum_univ_two]
    refine congrArg₂ (· + ·) (Finset.sum_congr rfl fun d _ => ?_) (Finset.sum_congr rfl fun d _ => ?_)
    · rw [dif_neg (by show ¬ 128 + (0 * 128 + d.val) < 128; omega),
        dif_pos (by show 128 + (0 * 128 + d.val) - 128 < 128; omega)]
      refine congrArg₂ (· * ·) ((congrArg y (congrArg (ix2 r) (Fin.ext ?_))).trans (if_pos (rfl : (0 : Fin 2) = 0)).symm) rfl
      show 128 + (0 * 128 + d.val) - 128 = d.val
      omega
    · rw [dif_neg (by show ¬ 128 + (1 * 128 + d.val) < 128; omega),
        dif_neg (by show ¬ 128 + (1 * 128 + d.val) - 128 < 128; omega)]
      refine congrArg₂ (· * ·) ((congrArg z (congrArg (ix2 r) (Fin.ext ?_))).trans (if_neg (show ¬ (1 : Fin 2) = 0 by decide)).symm) rfl
      show 128 + (1 * 128 + d.val) - 128 - 128 = d.val
      omega

/-- The edge half's first layer over its joined inputs. -/
def edgeFirst (x q : FVec Ideal S320000x128 .f32) (w : FVec Ideal S256x256 .f32) : FVec Ideal S320000x256 .f32 :=
  Host.dotGeneral dot_S320000x256_S256x256_S320000x256_1_0_0_1_n_n none
    (concatenate S320000x256 1 [⟨S320000x128, x⟩, ⟨S320000x128, q⟩] concatenates_S320000x128_S320000x128_S320000x256_d1) w

theorem edgeFirst_at (x q : FVec Ideal S320000x128 .f32) (w : FVec Ideal S256x256 .f32) (r : Fin 320000) (l : Fin 256) :
    edgeFirst x q w (ix2 r l) = (∑ k : Fin 128, x (ix2 r k) * w (ix2 (⟨k.val, by omega⟩ : Fin 256) l)) +
      ∑ k : Fin 128, q (ix2 r k) * w (ix2 (⟨128 + k.val, by omega⟩ : Fin 256) l) := by
  pointwise [edgeFirst]

end Cert.ReferenceIdeal.Value

end
-- ==== Proof.RefValue.lean ====
module

public import proofs.«01_k».proof.Proof.RefFirst

/-!
# What the reference leaves in its two results
-/

@[expose] public section
set_option maxRecDepth 16384
noncomputable section
open Idealize.ShloMosaic Idealize.ShloMosaic.TcCoe Idealize.SL.Sem
namespace Cert.ReferenceIdeal.Value
open Cert.ReferenceIdeal Cert.ReferenceIdeal.Gen Cert.Algebra

/-- A normalised layer against the second weight, in the cycle half. -/
def cycSecond (x : FVec Ideal S30000x256 .f32) (w : FVec Ideal S256x128 .f32) : FVec Ideal S30000x128 .f32 :=
  Host.dotGeneral dot_S30000x256_S256x128_S30000x128_1_0_0_1_n_n none x w

/-- Its entry. -/
theorem cycSecond_at (x : FVec Ideal S30000x256 .f32) (w : FVec Ideal S256x128 .f32) (r : Fin 30000) (l : Fin 128) :
    cycSecond x w (ix2 r l) = ∑ k : Fin 256, x (ix2 r k) * w (ix2 k l) := by
  pointwise [cycSecond]

/-- The same in the edge half. -/
def edgeSecond (x : FVec Ideal S320000x256 .f32) (w : FVec Ideal S256x128 .f32) : FVec Ideal S320000x128 .f32 :=
  Host.dotGeneral dot_S320000x256_S256x128_S320000x128_1_0_0_1_n_n none x w

/-- Its entry. -/
theorem edgeSecond_at (x : FVec Ideal S320000x256 .f32) (w : FVec Ideal S256x128 .f32) (r : Fin 320000) (l : Fin 128) :
    edgeSecond x w (ix2 r l) = ∑ k : Fin 256, x (ix2 r k) * w (ix2 k l) := by
  pointwise [edgeSecond]

/-- The cycle half over its first layer. -/
def cycHalf (y : FVec Ideal S30000x256 .f32) (g1 b1 : FVec Ideal S256 .f32) (W : FVec Ideal S256x128 .f32) (g2 b2 : FVec Ideal S128 .f32) :
    FVec Ideal S30000x128 .f32 :=
  normed_30000_128 (cycSecond (normed_30000_256 y g1 b1) W) g2 b2

/-- Its entry. -/
theorem cycHalf_at (y : FVec Ideal S30000x256 .f32) (g1 b1 : FVec Ideal S256 .f32) (W : FVec Ideal S256x128 .f32)
    (g2 b2 : FVec Ideal S128 .f32) (r : Fin 30000) (l : Fin 128) :
    cycHalf y g1 b1 W g2 b2 (ix2 r l) = refHalf (Ideal.ofBits .f32 0x46EA6000#32) (Ideal.ofBits .f32 0x3727C5AC#32)
      (fun s k => y (ix2 s k)) (fun k => g1 (ix1 k)) (fun k => b1 (ix1 k)) (fun k l => W (ix2 k l)) (fun l => g2 (ix1 l))
      (fun l => b2 (ix1 l)) r l := by
  unfold cycHalf refHalf
  rw [normed_30000_128_at]
  simp only [cycSecond_at, normed_30000_256_at]

/-- The edge half over its first layer. -/
def edgeHalf (y : FVec Ideal S320000x256 .f32) (g1 b1 : FVec Ideal S256 .f32) (W : FVec Ideal S256x128 .f32) (g2 b2 : FVec Ideal S128 .f32) :
    FVec Ideal S320000x128 .f32 :=
  normed_320000_128 (edgeSecond (normed_320000_256 y g1 b1) W) g2 b2

/-- Its entry. -/
theorem edgeHalf_at (y : FVec Ideal S320000x256 .f32) (g1 b1 : FVec Ideal S256 .f32) (W : FVec Ideal S256x128 .f32)
    (g2 b2 : FVec Ideal S128 .f32) (r : Fin 320000) (l : Fin 128) :
    edgeHalf y g1 b1 W g2 b2 (ix2 r l) = refHalf (Ideal.ofBits .f32 0x489C4000#32) (Ideal.ofBits .f32 0x3727C5AC#32)
      (fun s k => y (ix2 s k)) (fun k => g1 (ix1 k)) (fun k => b1 (ix1 k)) (fun k l => W (ix2 k l)) (fun l => g2 (ix1 l))
      (fun l => b2 (ix1 l)) r l := by
  unfold edgeHalf refHalf
  rw [normed_320000_128_at]
  simp only [edgeSecond_at, normed_320000_256_at]

variable (V0 : Valuation τ sig (Elt Ideal))

/-- The pooled rows of the arguments. -/
abbrev poolArg : (s : Fin 6) → FVec Ideal S5000x128 .f32 :=
  KernelIdeal.Value.pools (V0 (Proc.devRef .tc main_arg0)) (V0 (Proc.devRef .tc main_arg2)) (V0 (Proc.devRef .tc main_arg3))
    (V0 (Proc.devRef .tc main_arg4)) (V0 (Proc.devRef .tc main_arg5)) (V0 (Proc.devRef .tc main_arg6))
    (V0 (Proc.devRef .tc main_arg7))

/-- The pooled rows of length 3. -/
theorem pool3_val : res_main_v1 V0 = KernelIdeal.Value.pool3 (V0 (Proc.devRef .tc main_arg0)) (V0 (Proc.devRef .tc main_arg2)) := rfl

/-- The pooled rows of length 4. -/
theorem pool4_val : res_main_v3 V0 = KernelIdeal.Value.pool4 (V0 (Proc.devRef .tc main_arg0)) (V0 (Proc.devRef .tc main_arg3)) := rfl

/-- The pooled rows of length 5. -/
theorem pool5_val : res_main_v5 V0 = KernelIdeal.Value.pool5 (V0 (Proc.devRef .tc main_arg0)) (V0 (Proc.devRef .tc main_arg4)) := rfl

/-- The pooled rows of length 6. -/
theorem pool6_val : res_main_v7 V0 = KernelIdeal.Value.pool6 (V0 (Proc.devRef .tc main_arg0)) (V0 (Proc.devRef .tc main_arg5)) := rfl

/-- The pooled rows of length 7. -/
theorem pool7_val : res_main_v9 V0 = KernelIdeal.Value.pool7 (V0 (Proc.devRef .tc main_arg0)) (V0 (Proc.devRef .tc main_arg6)) := rfl

/-- The pooled rows of length 8. -/
theorem pool8_val : res_main_v11 V0 = KernelIdeal.Value.pool8 (V0 (Proc.devRef .tc main_arg0)) (V0 (Proc.devRef .tc main_arg7)) := rfl

/-- The cycle half's first layer. -/
theorem cycFirst_val : res_main_v52 V0 = cycFirst (V0 (Proc.devRef .tc main_arg1)) (chan (poolArg V0) 0 (V0 (Proc.devRef .tc main_arg8)))
    (chan (poolArg V0) 1 (V0 (Proc.devRef .tc main_arg8))) (V0 (Proc.devRef .tc main_arg9)) := by
  unfold res_main_v52 res_main_v50
  rw [pool3_val, pool4_val, pool5_val, pool6_val, pool7_val, pool8_val]
  rfl

/-- The cycle result. -/
theorem cyc_val : res_main_v93 V0 = cycHalf (res_main_v52 V0) (V0 (Proc.devRef .tc main_arg10)) (V0 (Proc.devRef .tc main_arg11))
    (V0 (Proc.devRef .tc main_arg12)) (V0 (Proc.devRef .tc main_arg13)) (V0 (Proc.devRef .tc main_arg14)) := rfl

/-- The edge half's first layer. -/
theorem edgeFirst_val : res_main_v162 V0 = edgeFirst (V0 (Proc.devRef .tc main_arg0)) (KernelIdeal.Value.spread (res_main_v93 V0)
    (V0 (Proc.devRef .tc main_arg2)) (V0 (Proc.devRef .tc main_arg3)) (V0 (Proc.devRef .tc main_arg4))
    (V0 (Proc.devRef .tc main_arg5)) (V0 (Proc.devRef .tc main_arg6)) (V0 (Proc.devRef .tc main_arg7)))
    (V0 (Proc.devRef .tc main_arg15)) := rfl

/-- The edge half's second layer before its normalisation. -/
theorem edgeSecond_val : res_main_v183 V0 = edgeSecond (normed_320000_256 (res_main_v162 V0) (V0 (Proc.devRef .tc main_arg16))
    (V0 (Proc.devRef .tc main_arg17))) (V0 (Proc.devRef .tc main_arg18)) := rfl

end Cert.ReferenceIdeal.Value

end
-- ==== Proof.Agree.lean ====
module

public import proofs.«01_k».proof.Proof.KernelValue
public import proofs.«01_k».proof.Proof.RefValue
public import proofs.«01_k».proof.Proof.Lits

/-!
# The kernel's two results are the reference's
-/

@[expose] public section
set_option maxRecDepth 16384
noncomputable section
open Idealize.ShloMosaic Idealize.ShloMosaic.TcCoe Idealize.SL.Sem
namespace Cert.Agree
open Cert.Algebra Cert.KernelIdeal.Value Cert.ReferenceIdeal.Value Cert.ReferenceIdeal

/-- The reference multiplies the pooled rows by the mixing matrices and then by the weights; the kernel multiplies the
    matrices by the weights first. -/
theorem first_alike (x : FVec Ideal S30000x128 .f32) (P : (s : Fin 6) → FVec Ideal S5000x128 .f32) (aut : FVec Ideal S2x6x128x128 .f32)
    (w : FVec Ideal S384x256 .f32) (hP : ∀ j, IsReal (joined P j)) (hw : ∀ j, IsReal (w j)) (r : Fin 30000) (l : Fin 256) :
    Alike (cycFirst x (chan P 0 aut) (chan P 1 aut) w (ix2 r l)) (cycIn x (joined P) aut w r l) := by
  rw [cycFirst_at]
  unfold cycIn
  refine Alike.add_left _ ?_
  have h := contract_alike (ι := Fin 2 × Fin 128) (fun k : Fin 128 => joined P (ix2 r k))
    (fun j => w (ix2 (⟨128 + (j.1.val * 128 + j.2.val), by omega⟩ : Fin 384) l))
    (fun k j => aut (ix4 j.1 (⟨r.val / 5000, by omega⟩ : Fin 6) k j.2)) (fun k => hP _) (fun j => hw _)
  simp only [Fintype.sum_prod_type] at h
  have e : ∀ (c : Fin 2) (d : Fin 128), (if c = 0 then chan P 0 aut (ix2 r d) else chan P 1 aut (ix2 r d)) =
      ∑ k : Fin 128, joined P (ix2 r k) * aut (ix4 c (⟨r.val / 5000, by omega⟩ : Fin 6) k d) := by
    intro c d
    rw [chan_at, chan_at]
    fin_cases c
    · exact if_pos rfl
    · exact if_neg (by decide)
  simp only [e]
  exact h

/-- The cycle result. -/
theorem cyc_agree (x : FVec Ideal S30000x128 .f32) (P : (s : Fin 6) → FVec Ideal S5000x128 .f32) (aut : FVec Ideal S2x6x128x128 .f32)
    (w : FVec Ideal S384x256 .f32) (g1 b1 : FVec Ideal S256 .f32) (W : FVec Ideal S256x128 .f32) (g2 b2 : FVec Ideal S128 .f32)
    (hP : ∀ j, IsReal (joined P j)) (hw : ∀ j, IsReal (w j)) (hg1 : ∀ j, IsReal (g1 j)) (hg2 : ∀ j, IsReal (g2 j)) :
    cycHalf (cycFirst x (chan P 0 aut) (chan P 1 aut) w) g1 b1 W g2 b2 = cycRes x (joined P) aut w g1 b1 W g2 b2 := by
  funext j
  obtain ⟨r, l, rfl⟩ : ∃ (r : Fin 30000) (l : Fin 128), j = ix2 r l := ⟨j 0, j 1, eq_ix2 j⟩
  rw [cycHalf_at]
  obtain ⟨ε, hε, e⟩ := lit_eps
  unfold cycRes nCyc eps
  rw [e, lit_30000]
  exact half_eq (by norm_num) (by norm_num) hε _ _ _ _ _ _ _ (fun k => hg1 _) (fun l => hg2 _)
    (fun r k => first_alike x P aut w hP hw r k) _ _

/-- The edge result. -/
theorem edge_agree (x q : FVec Ideal S320000x128 .f32) (w : FVec Ideal S256x256 .f32) (g1 b1 : FVec Ideal S256 .f32)
    (W : FVec Ideal S256x128 .f32) (g2 b2 : FVec Ideal S128 .f32) (hg1 : ∀ j, IsReal (g1 j)) (hg2 : ∀ j, IsReal (g2 j)) :
    edgeHalf (edgeFirst x q w) g1 b1 W g2 b2 = edgeRes x q w g1 b1 W g2 b2 := by
  funext j
  obtain ⟨r, l, rfl⟩ : ∃ (r : Fin 320000) (l : Fin 128), j = ix2 r l := ⟨j 0, j 1, eq_ix2 j⟩
  rw [edgeHalf_at]
  obtain ⟨ε, hε, e⟩ := lit_eps
  unfold edgeRes nEdge eps
  rw [e, lit_320000]
  exact half_eq (by norm_num) (by norm_num) hε _ _ _ _ _ _ _ (fun k => hg1 _) (fun l => hg2 _)
    (fun r k => Or.inl (edgeFirst_at x q w r k)) _ _

/-- The pooled rows are real where the edge rows are and every index is a row of theirs. -/
theorem joined_real (x : FVec Ideal S320000x128 .f32) (w3 : IVec S5000x3 32) (w4 : IVec S5000x4 32) (w5 : IVec S5000x5 32)
    (w6 : IVec S5000x6 32) (w7 : IVec S5000x7 32) (w8 : IVec S5000x8 32) (hx : ∀ j, IsReal (x j))
    (h3 : ∀ j, 0 ≤ (w3 j).toInt ∧ (w3 j).toInt < 320000) (h4 : ∀ j, 0 ≤ (w4 j).toInt ∧ (w4 j).toInt < 320000)
    (h5 : ∀ j, 0 ≤ (w5 j).toInt ∧ (w5 j).toInt < 320000) (h6 : ∀ j, 0 ≤ (w6 j).toInt ∧ (w6 j).toInt < 320000)
    (h7 : ∀ j, 0 ≤ (w7 j).toInt ∧ (w7 j).toInt < 320000) (h8 : ∀ j, 0 ≤ (w8 j).toInt ∧ (w8 j).toInt < 320000) (j : S30000x128.Idx) :
    IsReal (joined (pools x w3 w4 w5 w6 w7 w8) j) := by
  obtain ⟨r, l, rfl⟩ : ∃ (r : Fin 30000) (l : Fin 128), j = ix2 r l := ⟨j 0, j 1, eq_ix2 j⟩
  rw [joined_at]
  have h : ∀ (s : Fin 6) i, IsReal (pools x w3 w4 w5 w6 w7 w8 s i) := by
    intro s i
    fin_cases s
    · exact pool3_real x w3 hx h3 i
    · exact pool4_real x w4 hx h4 i
    · exact pool5_real x w5 hx h5 i
    · exact pool6_real x w6 hx h6 i
    · exact pool7_real x w7 hx h7 i
    · exact pool8_real x w8 hx h8 i
  exact h _ _

/-- The reference's two results over its arguments are the kernel's. -/
theorem results (V0 : Valuation τ sig (Elt Ideal))
    (a0 : FVec Ideal S320000x128 .f32) (a1 : FVec Ideal S30000x128 .f32) (a2 : IVec S5000x3 32) (a3 : IVec S5000x4 32)
    (a4 : IVec S5000x5 32) (a5 : IVec S5000x6 32) (a6 : IVec S5000x7 32) (a7 : IVec S5000x8 32) (a8 : FVec Ideal S2x6x128x128 .f32)
    (a9 : FVec Ideal S384x256 .f32) (a10 : FVec Ideal S256 .f32) (a11 : FVec Ideal S256 .f32) (a12 : FVec Ideal S256x128 .f32)
    (a13 : FVec Ideal S128 .f32) (a14 : FVec Ideal S128 .f32) (a15 : FVec Ideal S256x256 .f32) (a16 : FVec Ideal S256 .f32)
    (a17 : FVec Ideal S256 .f32) (a18 : FVec Ideal S256x128 .f32) (a19 : FVec Ideal S128 .f32) (a20 : FVec Ideal S128 .f32)
    (e0 : V0 (Proc.devRef .tc main_arg0) = a0) (e1 : V0 (Proc.devRef .tc main_arg1) = a1) (e2 : V0 (Proc.devRef .tc main_arg2) = a2)
    (e3 : V0 (Proc.devRef .tc main_arg3) = a3) (e4 : V0 (Proc.devRef .tc main_arg4) = a4) (e5 : V0 (Proc.devRef .tc main_arg5) = a5)
    (e6 : V0 (Proc.devRef .tc main_arg6) = a6) (e7 : V0 (Proc.devRef .tc main_arg7) = a7) (e8 : V0 (Proc.devRef .tc main_arg8) = a8)
    (e9 : V0 (Proc.devRef .tc main_arg9) = a9) (e10 : V0 (Proc.devRef .tc main_arg10) = a10)
    (e11 : V0 (Proc.devRef .tc main_arg11) = a11) (e12 : V0 (Proc.devRef .tc main_arg12) = a12)
    (e13 : V0 (Proc.devRef .tc main_arg13) = a13) (e14 : V0 (Proc.devRef .tc main_arg14) = a14)
    (e15 : V0 (Proc.devRef .tc main_arg15) = a15) (e16 : V0 (Proc.devRef .tc main_arg16) = a16)
    (e17 : V0 (Proc.devRef .tc main_arg17) = a17) (e18 : V0 (Proc.devRef .tc main_arg18) = a18)
    (e19 : V0 (Proc.devRef .tc main_arg19) = a19) (e20 : V0 (Proc.devRef .tc main_arg20) = a20)
    (h0 : ∀ i, IsReal (a0 i)) (h9 : ∀ i, IsReal (a9 i)) (h10 : ∀ i, IsReal (a10 i)) (h13 : ∀ i, IsReal (a13 i))
    (h16 : ∀ i, IsReal (a16 i)) (h19 : ∀ i, IsReal (a19 i)) (h2 : ∀ i, 0 ≤ (a2 i).toInt ∧ (a2 i).toInt < 320000)
    (h3 : ∀ i, 0 ≤ (a3 i).toInt ∧ (a3 i).toInt < 320000) (h4 : ∀ i, 0 ≤ (a4 i).toInt ∧ (a4 i).toInt < 320000)
    (h5 : ∀ i, 0 ≤ (a5 i).toInt ∧ (a5 i).toInt < 320000) (h6 : ∀ i, 0 ≤ (a6 i).toInt ∧ (a6 i).toInt < 320000)
    (h7 : ∀ i, 0 ≤ (a7 i).toInt ∧ (a7 i).toInt < 320000) :
    normed_320000_128 (res_main_v183 V0) (V0 (Proc.devRef .tc main_arg19)) (V0 (Proc.devRef .tc main_arg20)) =
        edgeRes a0 (spread (cycRes a1 (joined (pools a0 a2 a3 a4 a5 a6 a7)) a8 a9 a10 a11 a12 a13 a14) a2 a3 a4 a5 a6 a7) a15 a16 a17 a18
          a19 a20 ∧
      res_main_v93 V0 = cycRes a1 (joined (pools a0 a2 a3 a4 a5 a6 a7)) a8 a9 a10 a11 a12 a13 a14 := by
  subst e0 e1 e2 e3 e4 e5 e6 e7 e8 e9 e10 e11 e12 e13 e14 e15 e16 e17 e18 e19 e20
  have hc := (cyc_val V0).trans ((congrArg (cycHalf · _ _ _ _ _) (cycFirst_val V0)).trans (cyc_agree _ _ _ _ _ _ _ _ _
    (joined_real _ _ _ _ _ _ _ h0 h2 h3 h4 h5 h6 h7) h9 h10 h13))
  refine ⟨?_, hc⟩
  rw [← hc]
  refine Eq.trans ?_ (edge_agree _ _ _ _ _ _ _ _ h16 h19)
  rw [← edgeFirst_val, edgeSecond_val]
  rfl

end Cert.Agree

end
-- ==== Proof.KernelRun.lean ====
module

public import proofs.«01_k».proof.Proof.Gen.KernelIdeal.Frame

/-!
# The kernel's run

The launch of the kernel's segments, as its frame is proved, read at the two results as well as at the arguments.
-/

@[expose] public section

set_option maxRecDepth 16384

noncomputable section

namespace Cert.KernelIdeal.Value

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every final state has the two results at what the last boundary holds, and the arguments as launched. -/
theorem run_main : θ_run defs (onTc (τ := τ) (main (F := F))) ⟨m, fun _ => 0, ρ⟩ (fun r => ∀ c : Dev nD,
      r.2.mem ((c.tc : Thread nD τ).loc main_v167) = W24 m ρ c (Proc.devRef .tc main_v167)
      ∧ r.2.mem ((c.tc : Thread nD τ).loc main_v57) = W24 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W24 m ρ c b)
    (hfin := fun c s' => by
      iintro ⟨⟨Hh, -⟩, HSI⟩
      unfold StableHlo.held
      imodintro
      iapply (pointsTo_read_all (Pipeline.ucRefs τ sig) (fun b => (((c : Thread nD τ)).1, b)) (W24 m ρ c) s')
      isplitl [Hh] <;> iassumption)
    (hQ := fun s h _ => fun c =>
      ⟨h c _ (mem_uc main_v167 (by decide)), h c _ (mem_uc main_v57 (by decide)),
       (h c _ (mem_uc main_arg0 (by decide))).trans (W24_main_arg0 m ρ c),
       (h c _ (mem_uc main_arg1 (by decide))).trans (W24_main_arg1 m ρ c),
       (h c _ (mem_uc main_arg2 (by decide))).trans (W24_main_arg2 m ρ c),
       (h c _ (mem_uc main_arg3 (by decide))).trans (W24_main_arg3 m ρ c),
       (h c _ (mem_uc main_arg4 (by decide))).trans (W24_main_arg4 m ρ c),
       (h c _ (mem_uc main_arg5 (by decide))).trans (W24_main_arg5 m ρ c),
       (h c _ (mem_uc main_arg6 (by decide))).trans (W24_main_arg6 m ρ c),
       (h c _ (mem_uc main_arg7 (by decide))).trans (W24_main_arg7 m ρ c),
       (h c _ (mem_uc main_arg8 (by decide))).trans (W24_main_arg8 m ρ c),
       (h c _ (mem_uc main_arg9 (by decide))).trans (W24_main_arg9 m ρ c),
       (h c _ (mem_uc main_arg10 (by decide))).trans (W24_main_arg10 m ρ c),
       (h c _ (mem_uc main_arg11 (by decide))).trans (W24_main_arg11 m ρ c),
       (h c _ (mem_uc main_arg12 (by decide))).trans (W24_main_arg12 m ρ c),
       (h c _ (mem_uc main_arg13 (by decide))).trans (W24_main_arg13 m ρ c),
       (h c _ (mem_uc main_arg14 (by decide))).trans (W24_main_arg14 m ρ c),
       (h c _ (mem_uc main_arg15 (by decide))).trans (W24_main_arg15 m ρ c),
       (h c _ (mem_uc main_arg16 (by decide))).trans (W24_main_arg16 m ρ c),
       (h c _ (mem_uc main_arg17 (by decide))).trans (W24_main_arg17 m ρ c),
       (h c _ (mem_uc main_arg18 (by decide))).trans (W24_main_arg18 m ρ c),
       (h c _ (mem_uc main_arg19 (by decide))).trans (W24_main_arg19 m ρ c),
       (h c _ (mem_uc main_arg20 (by decide))).trans (W24_main_arg20 m ρ c)⟩)

end Cert.KernelIdeal.Value

end
-- ==== Proof.Pre.lean ====
module

public import proofs.«01_k».proof.Pre_finite_and_in_range
public import proofs.«01_k».proof.Proof.Algebra
public import proofs.«01_k».proof.Proof.Lits
public import Idealize.ShloMosaic.Lib.ReduceAll
public import Idealize.ShloMosaic.Lib.Affine
public import Idealize.ShloMosaic.Lib.KernelVsHost

/-!
# The precondition, read entry by entry

The precondition is one conjunction over whole arrays. Here each of its parts is read at an entry: a real number for the
six float arguments it names, a row number of the edge table for the six index arguments.
-/

@[expose] public section
set_option maxRecDepth 16384
noncomputable section
open Idealize.ShloMosaic
namespace Cert.Pre_finite_and_in_range
open Cert.Algebra

/-- The shape relations its operations state. -/
theorem facts : Facts where
  bcast_S_S320000x128 := by decide
  reducesTo_S320000x128_S_d0_1 := by decide
  h_S_ := by decide
  bcast_S_S384x256 := by decide
  reducesTo_S384x256_S_d0_1 := by decide
  bcast_S_S256 := by decide
  reducesTo_S256_S_d0 := by decide
  bcast_S_S128 := by decide
  reducesTo_S128_S_d0 := by decide
  bcast_S_S5000x3 := by decide
  reducesTo_S5000x3_S_d0_1 := by decide
  bcast_S_S5000x4 := by decide
  reducesTo_S5000x4_S_d0_1 := by decide
  bcast_S_S5000x5 := by decide
  reducesTo_S5000x5_S_d0_1 := by decide
  bcast_S_S5000x6 := by decide
  reducesTo_S5000x6_S_d0_1 := by decide
  bcast_S_S5000x7 := by decide
  reducesTo_S5000x7_S_d0_1 := by decide
  bcast_S_S5000x8 := by decide
  reducesTo_S5000x8_S_d0_1 := by decide

instance : Subsingleton S_.Idx := ⟨fun _ _ => funext fun i => i.elim0⟩

/-- Its one index. -/
def here : S_.Idx := fun i => i.elim0

/-- An array all of whose entries are below infinity in size holds reals. -/
theorem real_of {s : Shape} {dims : List (Fin s.rank)} (x : FVec Ideal s .f32) (hb : S_.BroadcastsInDim s (![] : Fin 0 → Fin s.rank))
    (hr : s.ReducesTo dims S_) (hu : 0 < S_.numel)
    (e : Host.reduce IntOp.andi (cmpf .olt (Host.absf x) (broadcastInDim s ![] hb (constant S_ .f32 0x7F800000#32)))
      (constantI S_ 1 1#1) hr hu here = 1#1) (i : s.Idx) : IsReal (x i) := by
  have h := Host.reduce_andi_all _ _ hr hu here e i
  have h' : Ideal.cmp .olt (max (x i : EReal) (-(x i : EReal))) (Ideal.ofBits .f32 0x7F800000#32) = 1#1 := h
  rw [lit_inf] at h'
  by_contra hn
  rcases not_isReal_iff.1 hn with hx | hx <;> rw [hx] at h' <;> simp [Ideal.cmp] at h'

/-- An array of words each at least 0 and below 320000. -/
theorem range_of {s : Shape} {dims : List (Fin s.rank)} (w : IVec s 32) (hb : S_.BroadcastsInDim s (![] : Fin 0 → Fin s.rank))
    (hr : s.ReducesTo dims S_) (hu : 0 < S_.numel)
    (e : Host.reduce IntOp.andi (andi (cmpi .sge w (broadcastInDim s ![] hb (constantI S_ 32 0#32)))
      (cmpi .slt w (broadcastInDim s ![] hb (constantI S_ 32 320000#32)))) (constantI S_ 1 1#1) hr hu here = 1#1) (i : s.Idx) :
    0 ≤ (w i).toInt ∧ (w i).toInt < 320000 := by
  have h := Host.reduce_andi_all _ _ hr hu here e i
  have h' : IntOp.andi (IntOp.cmpi .sge (w i) 0#32) (IntOp.cmpi .slt (w i) 320000#32) = 1#1 := h
  obtain ⟨h0, h1⟩ := IntOp.andi_eq_one.1 h'
  rw [IntOp.cmpi_sge] at h0
  rw [IntOp.cmpi_slt] at h1
  exact ⟨by simpa using h0, by simpa using h1⟩

attribute [local instance] facts

/-- What the precondition gives. -/
theorem entries (a0 : FVec Ideal S320000x128 .f32) (a1 : FVec Ideal S30000x128 .f32) (a2 : IVec S5000x3 32) (a3 : IVec S5000x4 32) (a4 : IVec S5000x5 32) (a5 : IVec S5000x6 32) (a6 : IVec S5000x7 32) (a7 : IVec S5000x8 32) (a8 : FVec Ideal S2x6x128x128 .f32) (a9 : FVec Ideal S384x256 .f32) (a10 : FVec Ideal S256 .f32) (a11 : FVec Ideal S256 .f32) (a12 : FVec Ideal S256x128 .f32) (a13 : FVec Ideal S128 .f32) (a14 : FVec Ideal S128 .f32) (a15 : FVec Ideal S256x256 .f32) (a16 : FVec Ideal S256 .f32) (a17 : FVec Ideal S256 .f32) (a18 : FVec Ideal S256x128 .f32) (a19 : FVec Ideal S128 .f32) (a20 : FVec Ideal S128 .f32)
    (h : fn (F := Ideal) a0 a1 a2 a3 a4 a5 a6 a7 a8 a9 a10 a11 a12 a13 a14 a15 a16 a17 a18 a19 a20 = fun _ => 1#1) :
    (∀ i, IsReal (a0 i)) ∧
    (∀ i, IsReal (a9 i)) ∧
    (∀ i, IsReal (a10 i)) ∧
    (∀ i, IsReal (a13 i)) ∧
    (∀ i, IsReal (a16 i)) ∧
    (∀ i, IsReal (a19 i)) ∧
    (∀ i, 0 ≤ (a2 i).toInt ∧ (a2 i).toInt < 320000) ∧
    (∀ i, 0 ≤ (a3 i).toInt ∧ (a3 i).toInt < 320000) ∧
    (∀ i, 0 ≤ (a4 i).toInt ∧ (a4 i).toInt < 320000) ∧
    (∀ i, 0 ≤ (a5 i).toInt ∧ (a5 i).toInt < 320000) ∧
    (∀ i, 0 ≤ (a6 i).toInt ∧ (a6 i).toInt < 320000) ∧
    (∀ i, 0 ≤ (a7 i).toInt ∧ (a7 i).toInt < 320000) := by
  unfold fn fn_part1 fn_part2 fn_part3 fn_part4 at h
  have h := congrFun h here
  obtain ⟨h, h7⟩ := IntOp.andi_eq_one.1 h
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h19⟩ := IntOp.andi_eq_one.1 h
  obtain ⟨h, h16⟩ := IntOp.andi_eq_one.1 h
  obtain ⟨h, h13⟩ := IntOp.andi_eq_one.1 h
  obtain ⟨h, h10⟩ := IntOp.andi_eq_one.1 h
  obtain ⟨h, h9⟩ := IntOp.andi_eq_one.1 h
  exact ⟨real_of a0 _ _ _ h, real_of a9 _ _ _ h9, real_of a10 _ _ _ h10, real_of a13 _ _ _ h13, real_of a16 _ _ _ h16, real_of a19 _ _ _ h19,
    range_of a2 _ _ _ h2, range_of a3 _ _ _ h3, range_of a4 _ _ _ h4, range_of a5 _ _ _ h5, range_of a6 _ _ _ h6, range_of a7 _ _ _ h7⟩

end Cert.Pre_finite_and_in_range

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import proofs.«01_k».proof.Proof.KernelRun
public import proofs.«01_k».proof.Proof.Pre
public import Idealize.ShloMosaic.Adequacy
public import Idealize.ShloMosaic.Init

/-!
# The certificate

The kernel and its reference both run and leave their arguments as launched, and under the precondition they end with equal results.
-/

@[expose] public section

set_option maxRecDepth 16384

noncomputable section

namespace Cert.Proof

open Idealize.ShloMosaic Idealize.SL.Sem

attribute [local instance] Cert.Pre_finite_and_in_range.facts

/-- The reference's frame: its run read at the arguments; it has no semaphore. -/
theorem reference_frame : Cert.quiescent_ReferenceIdeal := fun m g _ =>
  (θ_run _ _ _).mono (fun r h => ⟨fun c => (h c).2.2, sem_eq_zero_of_no_sems (by decide) r.2⟩) (Cert.ReferenceIdeal.Value.run m g)

/-- Equal results. -/
theorem value : Cert.algebraic_KernelIdeal_ReferenceIdeal_pre_finite_and_in_range := by
  intro m g m' g' hpre hargs
  refine ⟨fun c => Cert.KernelIdeal.Gen.W24 m g c (Proc.devRef .tc Cert.KernelIdeal.main_v167),
    fun c => Cert.KernelIdeal.Gen.W24 m g c (Proc.devRef .tc Cert.KernelIdeal.main_v57), Cert.KernelIdeal.Value.run_main m g, ?_⟩
  refine (θ_run _ _ _).mono (fun r h c => ?_) (Cert.ReferenceIdeal.Value.run m' g')
  obtain ⟨r0, r1, rargs⟩ := h c
  obtain ⟨h0, h9, h10, h13, h16, h19, h2, h3, h4, h5, h6, h7⟩ := Cert.Pre_finite_and_in_range.entries _ _ _ _ _ _ _ _ _ _ _ _ _ _ _ _ _ _ _ _ _ (hpre c)
  obtain ⟨e0, e1, e2, e3, e4, e5, e6, e7, e8, e9, e10, e11, e12, e13, e14, e15, e16, e17, e18, e19, e20⟩ := hargs c
  have e := Cert.Agree.results (StableHlo.launchContents m' c) _ _ _ _ _ _ _ _ _ _ _ _ _ _ _ _ _ _ _ _ _
    e0 e1 e2 e3 e4 e5 e6 e7 e8 e9 e10 e11 e12 e13 e14 e15 e16 e17 e18 e19 e20 h0 h9 h10 h13 h16 h19 h2 h3 h4 h5 h6 h7
  refine ⟨r0.trans (e.1.trans ?_), r1.trans (e.2.trans (Cert.KernelIdeal.Value.cyc_value m g c).symm), rargs⟩
  refine Eq.trans ?_ (Cert.KernelIdeal.Value.edge_value m g c).symm
  rw [Cert.KernelIdeal.Value.cyc_value m g c]

theorem claim : Cert.Claim :=
  ⟨Cert.Kernel.Gen.facts, Cert.KernelIdeal.Gen.facts, Cert.ReferenceIdeal.Gen.facts, Cert.Pre_finite_and_in_range.facts,
    fun m g _ => Cert.Kernel.Gen.frame m g, fun m g _ => Cert.KernelIdeal.Gen.frame m g, fun m g _ => Cert.KernelIdeal.Gen.frame m g,
    reference_frame, fun m g _ => reference_frame m g trivial, trivial, value⟩

end Cert.Proof

end
